-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v11)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v11) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v61) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal (hGateUpIdeal := hGateUpIdeal) (hGateUpReferenceIdeal := hGateUpReferenceIdeal)
-- ==== Kernel.lean ====
abbrev S32x10240 : Shape := ⟨2, ![32, 10240]⟩
abbrev S32x7168 : Shape := ⟨2, ![32, 7168]⟩
abbrev S7168x320x16 : Shape := ⟨3, ![7168, 320, 16]⟩
abbrev S7168x320 : Shape := ⟨2, ![7168, 320]⟩
abbrev S320x16x7168 : Shape := ⟨3, ![320, 16, 7168]⟩
abbrev S320x2x8x56x128 : Shape := ⟨5, ![320, 2, 8, 56, 128]⟩
abbrev S320x2x56x8x128 : Shape := ⟨5, ![320, 2, 56, 8, 128]⟩
abbrev S640x448x128 : Shape := ⟨3, ![640, 448, 128]⟩
abbrev S320x7168 : Shape := ⟨2, ![320, 7168]⟩
abbrev S32x512 : Shape := ⟨2, ![32, 512]⟩
abbrev S640x32x128 : Shape := ⟨3, ![640, 32, 128]⟩
abbrev S320x512 : Shape := ⟨2, ![320, 512]⟩
abbrev S4x320x128 : Shape := ⟨3, ![4, 320, 128]⟩
abbrev S32x128 : Shape := ⟨2, ![32, 128]⟩
abbrev S32x128x1 : Shape := ⟨3, ![32, 128, 1]⟩
abbrev S320x128 : Shape := ⟨2, ![320, 128]⟩
abbrev S1x320x128 : Shape := ⟨3, ![1, 320, 128]⟩
abbrev S32x256 : Shape := ⟨2, ![32, 256]⟩
abbrev S8x8x128 : Shape := ⟨3, ![8, 8, 128]⟩
abbrev S1x16x128 : Shape := ⟨3, ![1, 16, 128]⟩
abbrev S16x128 : Shape := ⟨2, ![16, 128]⟩
abbrev S1x32x128 : Shape := ⟨3, ![1, 32, 128]⟩
abbrev S8x128 : Shape := ⟨2, ![8, 128]⟩
abbrev S8x1x128 : Shape := ⟨3, ![8, 1, 128]⟩
abbrev S64x128 : Shape := ⟨2, ![64, 128]⟩
abbrev S256x128 : Shape := ⟨2, ![256, 128]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S32x10240, .bf16⟩
  | .hbm, ⟨1, _⟩ => ⟨S32x7168, .f32⟩
  | .hbm, ⟨2, _⟩ => ⟨S7168x320x16, .i8⟩
  | .hbm, ⟨3, _⟩ => ⟨S7168x320, .bf16⟩
  | .hbm, ⟨4, _⟩ => ⟨S320x16x7168, .i8⟩
  | .hbm, ⟨5, _⟩ => ⟨S320x2x8x56x128, .i8⟩
  | .hbm, ⟨6, _⟩ => ⟨S320x2x56x8x128, .i8⟩
  | .hbm, ⟨7, _⟩ => ⟨S640x448x128, .i8⟩
  | .hbm, ⟨8, _⟩ => ⟨S320x7168, .bf16⟩
  | .hbm, ⟨9, _⟩ => ⟨S32x7168, .bf16⟩
  | .local _ .vmem, ⟨0, _⟩ => ⟨S32x10240, .bf16⟩
  | .local _ .vmem, ⟨1, _⟩ => ⟨S32x512, .f32⟩
  | .local _ .vmem, ⟨2, _⟩ => ⟨S32x512, .f32⟩
  | .local _ .vmem, ⟨3, _⟩ => ⟨S640x32x128, .i8⟩
  | .local _ .vmem, ⟨4, _⟩ => ⟨S640x32x128, .i8⟩
  | .local _ .vmem, ⟨5, _⟩ => ⟨S320x512, .bf16⟩
  | .local _ .vmem, ⟨6, _⟩ => ⟨S320x512, .bf16⟩
  | .local _ .vmem, ⟨7, _⟩ => ⟨S32x512, .bf16⟩
  | .local _ .vmem, ⟨8, _⟩ => ⟨S32x512, .bf16⟩
  | .local _ .vmem, ⟨9, _⟩ => ⟨S32x10240, .bf16⟩
  | .local _ .vmem, ⟨10, _⟩ => ⟨S4x320x128, .f32⟩
  | _, _ => ⟨S32x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x32x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x10240 : Shape := ⟨2, ![32, 10240]⟩
abbrev S32x7168 : Shape := ⟨2, ![32, 7168]⟩
abbrev S7168x320x16 : Shape := ⟨3, ![7168, 320, 16]⟩
abbrev S7168x320 : Shape := ⟨2, ![7168, 320]⟩
abbrev S7168x320x1 : Shape := ⟨3, ![7168, 320, 1]⟩
abbrev S_ : Shape := ⟨0, ![]⟩
abbrev S32x320x32 : Shape := ⟨3, ![32, 320, 32]⟩
abbrev S32x320x16 : Shape := ⟨3, ![32, 320, 16]⟩

abbrev nBuf : Space → Nat
  | .hbm => 32
  | .vmem => 0
  | .smem => 0
  | _ => 0

abbrev bufTy : (tb : Table) → Fin (tcTables nBuf tb) → BufTy
  | .hbm, ⟨0, _⟩ => ⟨S32x10240, .bf16⟩
  | .hbm, ⟨1, _⟩ => ⟨S32x7168, .f32⟩
  | .hbm, ⟨2, _⟩ => ⟨S7168x320x16, .i8⟩
  | .hbm, ⟨3, _⟩ => ⟨S7168x320, .bf16⟩
  | .hbm, ⟨4, _⟩ => ⟨S7168x320x1, .bf16⟩
  | .hbm, ⟨5, _⟩ => ⟨S7168x320x16, .i32⟩
  | .hbm, ⟨6, _⟩ => ⟨S_, .i32⟩
  | .hbm, ⟨7, _⟩ => ⟨S7168x320x16, .i32⟩
  | .hbm, ⟨8, _⟩ => ⟨S7168x320x16, .i32⟩
  | .hbm, ⟨9, _⟩ => ⟨S7168x320x16, .bf16⟩
  | .hbm, ⟨10, _⟩ => ⟨S_, .bf16⟩
  | .hbm, ⟨11, _⟩ => ⟨S7168x320x16, .bf16⟩
  | .hbm, ⟨12, _⟩ => ⟨S7168x320x16, .bf16⟩
  | .hbm, ⟨13, _⟩ => ⟨S7168x320x16, .bf16⟩
  | .hbm, ⟨14, _⟩ => ⟨S7168x320x16, .bf16⟩
  | .hbm, ⟨15, _⟩ => ⟨S_, .i32⟩
  | .hbm, ⟨16, _⟩ => ⟨S7168x320x16, .i32⟩
  | .hbm, ⟨17, _⟩ => ⟨S7168x320x16, .i32⟩
  | .hbm, ⟨18, _⟩ => ⟨S7168x320x16, .bf16⟩
  | .hbm, ⟨19, _⟩ => ⟨S_, .bf16⟩
  | .hbm, ⟨20, _⟩ => ⟨S7168x320x16, .bf16⟩
  | .hbm, ⟨21, _⟩ => ⟨S7168x320x16, .bf16⟩
  | .hbm, ⟨22, _⟩ => ⟨S7168x320x16, .bf16⟩
  | .hbm, ⟨23, _⟩ => ⟨S7168x320x16, .bf16⟩
  | .hbm, ⟨24, _⟩ => ⟨S32x320x32, .bf16⟩
  | .hbm, ⟨25, _⟩ => ⟨S32x320x16, .bf16⟩
  | .hbm, ⟨26, _⟩ => ⟨S32x7168, .f32⟩
  | .hbm, ⟨27, _⟩ => ⟨S32x320x16, .bf16⟩
  | .hbm, ⟨28, _⟩ => ⟨S32x7168, .f32⟩
  | .hbm, ⟨29, _⟩ => ⟨S32x7168, .f32⟩
  | .hbm, ⟨30, _⟩ => ⟨S32x7168, .f32⟩
  | .hbm, ⟨31, _⟩ => ⟨S32x7168, .bf16⟩
  | _, _ => ⟨S32x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== GateUp.lean ====
abbrev S32x7168 : Shape := ⟨2, ![32, 7168]⟩
abbrev S7168 : Shape := ⟨1, ![7168]⟩
abbrev S10240x224x16 : Shape := ⟨3, ![10240, 224, 16]⟩
abbrev S10240x224 : Shape := ⟨2, ![10240, 224]⟩
abbrev S56x128 : Shape := ⟨2, ![56, 128]⟩
abbrev S224x16x10240 : Shape := ⟨3, ![224, 16, 10240]⟩
abbrev S224x2x8x80x128 : Shape := ⟨5, ![224, 2, 8, 80, 128]⟩
abbrev S224x2x80x8x128 : Shape := ⟨5, ![224, 2, 80, 8, 128]⟩
abbrev S448x640x128 : Shape := ⟨3, ![448, 640, 128]⟩
abbrev S224x10240 : Shape := ⟨2, ![224, 10240]⟩
abbrev S32x10240 : Shape := ⟨2, ![32, 10240]⟩
abbrev S448x32x128 : Shape := ⟨3, ![448, 32, 128]⟩
abbrev S224x512 : Shape := ⟨2, ![224, 512]⟩
abbrev S32x512 : Shape := ⟨2, ![32, 512]⟩
abbrev S4x224x128 : Shape := ⟨3, ![4, 224, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x128x1 : Shape := ⟨3, ![32, 128, 1]⟩
abbrev S224x128 : Shape := ⟨2, ![224, 128]⟩
abbrev S1x224x128 : Shape := ⟨3, ![1, 224, 128]⟩
abbrev S32x256 : Shape := ⟨2, ![32, 256]⟩
abbrev S8x8x128 : Shape := ⟨3, ![8, 8, 128]⟩
abbrev S1x16x128 : Shape := ⟨3, ![1, 16, 128]⟩
abbrev S16x128 : Shape := ⟨2, ![16, 128]⟩
abbrev S1x32x128 : Shape := ⟨3, ![1, 32, 128]⟩
abbrev S8x128 : Shape := ⟨2, ![8, 128]⟩
abbrev S8x1x128 : Shape := ⟨3, ![8, 1, 128]⟩
abbrev S64x128 : Shape := ⟨2, ![64, 128]⟩
abbrev S256x128 : Shape := ⟨2, ![256, 128]⟩
abbrev S256x256 : Shape := ⟨2, ![256, 256]⟩

abbrev nBuf : Space → Nat
  | .hbm => 18
  | .vmem => 15
  | .smem => 0
  | _ => 0

abbrev bufTy : (tb : Table) → Fin (tcTables nBuf tb) → BufTy
  | .hbm, ⟨0, _⟩ => ⟨S32x7168, .f32⟩
  | .hbm, ⟨1, _⟩ => ⟨S7168, .bf16⟩
  | .hbm, ⟨2, _⟩ => ⟨S10240x224x16, .i8⟩
  | .hbm, ⟨3, _⟩ => ⟨S10240x224, .bf16⟩
  | .hbm, ⟨4, _⟩ => ⟨S10240x224x16, .i8⟩
  | .hbm, ⟨5, _⟩ => ⟨S10240x224, .bf16⟩
  | .hbm, ⟨6, _⟩ => ⟨S56x128, .bf16⟩
  | .hbm, ⟨7, _⟩ => ⟨S224x16x10240, .i8⟩
  | .hbm, ⟨8, _⟩ => ⟨S224x2x8x80x128, .i8⟩
  | .hbm, ⟨9, _⟩ => ⟨S224x2x80x8x128, .i8⟩
  | .hbm, ⟨10, _⟩ => ⟨S448x640x128, .i8⟩
  | .hbm, ⟨11, _⟩ => ⟨S224x10240, .bf16⟩
  | .hbm, ⟨12, _⟩ => ⟨S224x16x10240, .i8⟩
  | .hbm, ⟨13, _⟩ => ⟨S224x2x8x80x128, .i8⟩
  | .hbm, ⟨14, _⟩ => ⟨S224x2x80x8x128, .i8⟩
  | .hbm, ⟨15, _⟩ => ⟨S448x640x128, .i8⟩
  | .hbm, ⟨16, _⟩ => ⟨S224x10240, .bf16⟩
  | .hbm, ⟨17, _⟩ => ⟨S32x10240, .bf16⟩
  | .local _ .vmem, ⟨0, _⟩ => ⟨S32x7168, .f32⟩
  | .local _ .vmem, ⟨1, _⟩ => ⟨S56x128, .bf16⟩
  | .local _ .vmem, ⟨2, _⟩ => ⟨S448x32x128, .i8⟩
  | .local _ .vmem, ⟨3, _⟩ => ⟨S448x32x128, .i8⟩
  | .local _ .vmem, ⟨4, _⟩ => ⟨S224x512, .bf16⟩
  | .local _ .vmem, ⟨5, _⟩ => ⟨S224x512, .bf16⟩
  | .local _ .vmem, ⟨6, _⟩ => ⟨S448x32x128, .i8⟩
  | .local _ .vmem, ⟨7, _⟩ => ⟨S448x32x128, .i8⟩
  | .local _ .vmem, ⟨8, _⟩ => ⟨S224x512, .bf16⟩
  | .local _ .vmem, ⟨9, _⟩ => ⟨S224x512, .bf16⟩
  | .local _ .vmem, ⟨10, _⟩ => ⟨S32x512, .bf16⟩
  | .local _ .vmem, ⟨11, _⟩ => ⟨S32x512, .bf16⟩
  | .local _ .vmem, ⟨12, _⟩ => ⟨S32x7168, .bf16⟩
  | .local _ .vmem, ⟨13, _⟩ => ⟨S4x224x128, .f32⟩
  | .local _ .vmem, ⟨14, _⟩ => ⟨S4x224x128, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S56x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S448x32x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x32x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpReferenceIdeal.lean ====
abbrev S32x7168 : Shape := ⟨2, ![32, 7168]⟩
abbrev S7168 : Shape := ⟨1, ![7168]⟩
abbrev S10240x224x16 : Shape := ⟨3, ![10240, 224, 16]⟩
abbrev S10240x224 : Shape := ⟨2, ![10240, 224]⟩
abbrev S_ : Shape := ⟨0, ![]⟩
abbrev S32 : Shape := ⟨1, ![32]⟩
abbrev S32x1 : Shape := ⟨2, ![32, 1]⟩
abbrev S1x7168 : Shape := ⟨2, ![1, 7168]⟩
abbrev S10240x224x1 : Shape := ⟨3, ![10240, 224, 1]⟩
abbrev S32x224x32 : Shape := ⟨3, ![32, 224, 32]⟩
abbrev S32x224x16 : Shape := ⟨3, ![32, 224, 16]⟩
abbrev S32x10240 : Shape := ⟨2, ![32, 10240]⟩

abbrev nBuf : Space → Nat
  | .hbm => 87
  | .vmem => 0
  | .smem => 0
  | _ => 0

abbrev bufTy : (tb : Table) → Fin (tcTables nBuf tb) → BufTy
  | .hbm, ⟨0, _⟩ => ⟨S32x7168, .f32⟩
  | .hbm, ⟨1, _⟩ => ⟨S7168, .bf16⟩
  | .hbm, ⟨2, _⟩ => ⟨S10240x224x16, .i8⟩
  | .hbm, ⟨3, _⟩ => ⟨S10240x224, .bf16⟩
  | .hbm, ⟨4, _⟩ => ⟨S10240x224x16, .i8⟩
  | .hbm, ⟨5, _⟩ => ⟨S10240x224, .bf16⟩
  | .hbm, ⟨6, _⟩ => ⟨S32x7168, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x7168, .f32⟩
  | .hbm, ⟨18, _⟩ => ⟨S32x7168, .f32⟩
  | .hbm, ⟨19, _⟩ => ⟨S7168, .f32⟩
  | .hbm, ⟨20, _⟩ => ⟨S1x7168, .f32⟩
  | .hbm, ⟨21, _⟩ => ⟨S32x7168, .f32⟩
  | .hbm, ⟨22, _⟩ => ⟨S32x7168, .f32⟩
  | .hbm, ⟨23, _⟩ => ⟨S32x7168, .bf16⟩
  | .hbm, ⟨24, _⟩ => ⟨S10240x224x1, .bf16⟩
  | .hbm, ⟨25, _⟩ => ⟨S10240x224x16, .i32⟩
  | .hbm, ⟨26, _⟩ => ⟨S_, .i32⟩
  | .hbm, ⟨27, _⟩ => ⟨S10240x224x16, .i32⟩
  | .hbm, ⟨28, _⟩ => ⟨S10240x224x16, .i32⟩
  | .hbm, ⟨29, _⟩ => ⟨S10240x224x16, .bf16⟩
  | .hbm, ⟨30, _⟩ => ⟨S_, .bf16⟩
  | .hbm, ⟨31, _⟩ => ⟨S10240x224x16, .bf16⟩
  | .hbm, ⟨32, _⟩ => ⟨S10240x224x16, .bf16⟩
  | .hbm, ⟨33, _⟩ => ⟨S10240x224x16, .bf16⟩
  | .hbm, ⟨34, _⟩ => ⟨S10240x224x16, .bf16⟩
  | .hbm, ⟨35, _⟩ => ⟨S_, .i32⟩
  | .hbm, ⟨36, _⟩ => ⟨S10240x224x16, .i32⟩
  | .hbm, ⟨37, _⟩ => ⟨S10240x224x16, .i32⟩
  | .hbm, ⟨38, _⟩ => ⟨S10240x224x16, .bf16⟩
  | .hbm, ⟨39, _⟩ => ⟨S_, .bf16⟩
  | .hbm, ⟨40, _⟩ => ⟨S10240x224x16, .bf16⟩
  | .hbm, ⟨41, _⟩ => ⟨S10240x224x16, .bf16⟩
  | .hbm, ⟨42, _⟩ => ⟨S10240x224x16, .bf16⟩
  | .hbm, ⟨43, _⟩ => ⟨S10240x224x16, .bf16⟩
  | .hbm, ⟨44, _⟩ => ⟨S32x224x32, .bf16⟩
  | .hbm, ⟨45, _⟩ => ⟨S32x224x16, .bf16⟩
  | .hbm, ⟨46, _⟩ => ⟨S32x10240, .f32⟩
  | .hbm, ⟨47, _⟩ => ⟨S32x224x16, .bf16⟩
  | .hbm, ⟨48, _⟩ => ⟨S32x10240, .f32⟩
  | .hbm, ⟨49, _⟩ => ⟨S32x10240, .f32⟩
  | .hbm, ⟨50, _⟩ => ⟨S10240x224x1, .bf16⟩
  | .hbm, ⟨51, _⟩ => ⟨S10240x224x16, .i32⟩
  | .hbm, ⟨52, _⟩ => ⟨S_, .i32⟩
  | .hbm, ⟨53, _⟩ => ⟨S10240x224x16, .i32⟩
  | .hbm, ⟨54, _⟩ => ⟨S10240x224x16, .i32⟩
  | .hbm, ⟨55, _⟩ => ⟨S10240x224x16, .bf16⟩
  | .hbm, ⟨56, _⟩ => ⟨S_, .bf16⟩
  | .hbm, ⟨57, _⟩ => ⟨S10240x224x16, .bf16⟩
  | .hbm, ⟨58, _⟩ => ⟨S10240x224x16, .bf16⟩
  | .hbm, ⟨59, _⟩ => ⟨S10240x224x16, .bf16⟩
  | .hbm, ⟨60, _⟩ => ⟨S10240x224x16, .bf16⟩
  | .hbm, ⟨61, _⟩ => ⟨S_, .i32⟩
  | .hbm, ⟨62, _⟩ => ⟨S10240x224x16, .i32⟩
  | .hbm, ⟨63, _⟩ => ⟨S10240x224x16, .i32⟩
  | .hbm, ⟨64, _⟩ => ⟨S10240x224x16, .bf16⟩
  | .hbm, ⟨65, _⟩ => ⟨S_, .bf16⟩
  | .hbm, ⟨66, _⟩ => ⟨S10240x224x16, .bf16⟩
  | .hbm, ⟨67, _⟩ => ⟨S10240x224x16, .bf16⟩
  | .hbm, ⟨68, _⟩ => ⟨S10240x224x16, .bf16⟩
  | .hbm, ⟨69, _⟩ => ⟨S10240x224x16, .bf16⟩
  | .hbm, ⟨70, _⟩ => ⟨S32x224x32, .bf16⟩
  | .hbm, ⟨71, _⟩ => ⟨S32x224x16, .bf16⟩
  | .hbm, ⟨72, _⟩ => ⟨S32x10240, .f32⟩
  | .hbm, ⟨73, _⟩ => ⟨S32x224x16, .bf16⟩
  | .hbm, ⟨74, _⟩ => ⟨S32x10240, .f32⟩
  | .hbm, ⟨75, _⟩ => ⟨S32x10240, .f32⟩
  | .hbm, ⟨76, _⟩ => ⟨S32x10240, .f32⟩
  | .hbm, ⟨77, _⟩ => ⟨S32x10240, .f32⟩
  | .hbm, ⟨78, _⟩ => ⟨S_, .f32⟩
  | .hbm, ⟨79, _⟩ => ⟨S32x10240, .f32⟩
  | .hbm, ⟨80, _⟩ => ⟨S32x10240, .f32⟩
  | .hbm, ⟨81, _⟩ => ⟨S_, .f32⟩
  | .hbm, ⟨82, _⟩ => ⟨S32x10240, .f32⟩
  | .hbm, ⟨83, _⟩ => ⟨S32x10240, .f32⟩
  | .hbm, ⟨84, _⟩ => ⟨S32x10240, .f32⟩
  | .hbm, ⟨85, _⟩ => ⟨S32x10240, .f32⟩
  | .hbm, ⟨86, _⟩ => ⟨S32x10240, .bf16⟩
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Block.lean ====
/-
  One block of 256 rows of a q4_0 matrix, as the kernels unpack it and push it to the matrix units: the loads of its scales and
  codes group by group (`group`), the two 256x256 tiles they unpack to (`tile`), the push and the accumulate on both units
  (`block`), and the blocks one after another (`blocks`). A matrix of `8 * K` groups of 32 has `K` such blocks.
-/
module

public import Idealize.ShloMosaic.Lib.Mxu.Lemmas
public import Idealize.ShloMosaic.Harness.Basic
public import Idealize.ShloMosaic.Lib.Tactic

@[expose] public section

set_option maxRecDepth 16384

noncomputable section

namespace Cert.Q4

open Idealize.ShloMosaic Idealize.ShloMosaic.TcCoe
open Idealize.SL.Sem

abbrev S32x256 : Shape := ⟨2, ![32, 256]⟩
abbrev S256x256 : Shape := ⟨2, ![256, 256]⟩
abbrev S256x128 : Shape := ⟨2, ![256, 128]⟩
abbrev S16x128 : Shape := ⟨2, ![16, 128]⟩
abbrev S64x128 : Shape := ⟨2, ![64, 128]⟩
abbrev S32x128 : Shape := ⟨2, ![32, 128]⟩
abbrev S8x128 : Shape := ⟨2, ![8, 128]⟩
abbrev S8x1x128 : Shape := ⟨3, ![8, 1, 128]⟩
abbrev S8x8x128 : Shape := ⟨3, ![8, 8, 128]⟩
abbrev S1x16x128 : Shape := ⟨3, ![1, 16, 128]⟩
abbrev S1x32x128 : Shape := ⟨3, ![1, 32, 128]⟩
/-- The activations' shape, the scales' and the codes', for `K` blocks. -/
abbrev SAct (K : Nat) : Shape := ⟨2, ![32, 256 * K]⟩
abbrev SDup (K : Nat) : Shape := ⟨3, ![4, 8 * K, 128]⟩
abbrev SCode (K : Nat) : Shape := ⟨3, ![16 * K, 32, 128]⟩

theorem inb_act {K kt : Nat} (h : kt < K) : ∀ a, (![0, 256 * kt] : Fin 2 → Nat) a + S32x256.size a ≤ (SAct K).size a := by
  intro a; fin_cases a <;> simp <;> omega
theorem inb_dup {K c g : Nat} (hc : c < 4) (h : g < 8 * K) :
    ∀ a, S1x16x128.size a = 0 ∨ (![c, g, 0] : Fin 3 → Nat) a + (![1, 0, 1] : Fin 3 → Nat) a * (S1x16x128.size a - 1) < (SDup K).size a := by
  intro a; fin_cases a <;> simp <;> omega
theorem inb_code {K r : Nat} (h : r < 16 * K) : ∀ a, (![r, 0, 0] : Fin 3 → Nat) a + S1x32x128.size a ≤ (SCode K).size a := by
  intro a; fin_cases a <;> simp <;> omega
theorem h_S32x256 : 0 < S32x256.numel := by decide
theorem h_S1x16x128 : 0 < S1x16x128.numel := by decide
theorem h_S1x32x128 : 0 < S1x32x128.numel := by decide
theorem concat16 : Shape.Concatenates [S16x128, S16x128, S16x128, S16x128, S16x128, S16x128, S16x128, S16x128, S16x128,
    S16x128, S16x128, S16x128, S16x128, S16x128, S16x128, S16x128] S256x128 0 := by decide
theorem concat2 : Shape.Concatenates [S256x128, S256x128] S256x256 1 := by decide
theorem fits : Mxu.Fits 0 32 := by decide

/-! ## What is computed -/

section Values
variable {F : FTy → Type} [FloatOps F]

/-- The shift that brings nibble `n` of a word to its top four bits, at row `n` of eight. -/
def nibble : IVec S8x8x128 32 :=
  subi (broadcast S8x8x128 28#32) (muli (broadcast S8x8x128 4#32) (iota .tc S8x8x128 32 [1] (by decide)))

/-- 32 rows of packed bytes unpacked to 64 rows of signed four-bit values. -/
def unpack (w : Vec F S1x32x128 .i8) : FVec F S64x128 .bf16 :=
  sitofp .bf16 (shapeCast S64x128 (shrsi (shli (broadcastTo S8x8x128 (shapeCast S8x1x128 (xori (bitcast S8x128 32
    (shapeCast S32x128 w (by decide)) (by decide)) (broadcast S8x128 2290649224#32)) (by decide)) (by decide)) nibble)
    (broadcast S8x8x128 28#32)) (by decide))

/-- A group's scale of 128 columns, repeated down 16 rows. -/
def scale (s : Vec F S1x16x128 .f32) : FVec F S16x128 .bf16 := truncf .bf16 (shapeCast S16x128 s (by decide)) (by decide)

/-- What a group of 32 reads: its scales of four tiles of 128 columns, its codes' two halves. -/
structure Group (F : FTy → Type) where
  s0 : Vec F S1x16x128 .f32
  s1 : Vec F S1x16x128 .f32
  s2 : Vec F S1x16x128 .f32
  s3 : Vec F S1x16x128 .f32
  w0 : Vec F S1x32x128 .i8
  w1 : Vec F S1x32x128 .i8

/-- The 16 dequantised rows of one half of a group, at column tile 0, 1, 2 and 3. -/
def part0 (s : Vec F S1x16x128 .f32) (w : Vec F S1x32x128 .i8) : FVec F S16x128 .bf16 :=
  mulf (extractStridedSlice S16x128 ![0, 0] (unpack w) (by decide)) (scale s)
def part1 (s : Vec F S1x16x128 .f32) (w : Vec F S1x32x128 .i8) : FVec F S16x128 .bf16 :=
  mulf (extractStridedSlice S16x128 ![16, 0] (unpack w) (by decide)) (scale s)
def part2 (s : Vec F S1x16x128 .f32) (w : Vec F S1x32x128 .i8) : FVec F S16x128 .bf16 :=
  mulf (extractStridedSlice S16x128 ![32, 0] (unpack w) (by decide)) (scale s)
def part3 (s : Vec F S1x16x128 .f32) (w : Vec F S1x32x128 .i8) : FVec F S16x128 .bf16 :=
  mulf (extractStridedSlice S16x128 ![48, 0] (unpack w) (by decide)) (scale s)

/-- Sixteen pieces of 16 rows on top of one another. -/
def stack (a b c d e f g h i j k l m n o p : FVec F S16x128 .bf16) : FVec F S256x128 .bf16 :=
  concatenate S256x128 0 [⟨S16x128, a⟩, ⟨S16x128, b⟩, ⟨S16x128, c⟩, ⟨S16x128, d⟩, ⟨S16x128, e⟩, ⟨S16x128, f⟩, ⟨S16x128, g⟩,
    ⟨S16x128, h⟩, ⟨S16x128, i⟩, ⟨S16x128, j⟩, ⟨S16x128, k⟩, ⟨S16x128, l⟩, ⟨S16x128, m⟩, ⟨S16x128, n⟩, ⟨S16x128, o⟩, ⟨S16x128, p⟩] concat16

/-- Two tiles of 128 columns side by side. -/
def beside (a b : FVec F S256x128 .bf16) : FVec F S256x256 .bf16 :=
  concatenate S256x256 1 [⟨S256x128, a⟩, ⟨S256x128, b⟩] concat2

variable (a b c d e f g h : Group F)

/-- The tile of columns 0 to 255 of eight groups, and of columns 256 to 511. -/
def tile0 : FVec F S256x256 .bf16 := beside
  (stack (part0 a.s0 a.w0) (part0 a.s0 a.w1) (part0 b.s0 b.w0) (part0 b.s0 b.w1) (part0 c.s0 c.w0) (part0 c.s0 c.w1)
    (part0 d.s0 d.w0) (part0 d.s0 d.w1) (part0 e.s0 e.w0) (part0 e.s0 e.w1) (part0 f.s0 f.w0) (part0 f.s0 f.w1)
    (part0 g.s0 g.w0) (part0 g.s0 g.w1) (part0 h.s0 h.w0) (part0 h.s0 h.w1))
  (stack (part1 a.s1 a.w0) (part1 a.s1 a.w1) (part1 b.s1 b.w0) (part1 b.s1 b.w1) (part1 c.s1 c.w0) (part1 c.s1 c.w1)
    (part1 d.s1 d.w0) (part1 d.s1 d.w1) (part1 e.s1 e.w0) (part1 e.s1 e.w1) (part1 f.s1 f.w0) (part1 f.s1 f.w1)
    (part1 g.s1 g.w0) (part1 g.s1 g.w1) (part1 h.s1 h.w0) (part1 h.s1 h.w1))
def tile1 : FVec F S256x256 .bf16 := beside
  (stack (part2 a.s2 a.w0) (part2 a.s2 a.w1) (part2 b.s2 b.w0) (part2 b.s2 b.w1) (part2 c.s2 c.w0) (part2 c.s2 c.w1)
    (part2 d.s2 d.w0) (part2 d.s2 d.w1) (part2 e.s2 e.w0) (part2 e.s2 e.w1) (part2 f.s2 f.w0) (part2 f.s2 f.w1)
    (part2 g.s2 g.w0) (part2 g.s2 g.w1) (part2 h.s2 h.w0) (part2 h.s2 h.w1))
  (stack (part3 a.s3 a.w0) (part3 a.s3 a.w1) (part3 b.s3 b.w0) (part3 b.s3 b.w1) (part3 c.s3 c.w0) (part3 c.s3 c.w1)
    (part3 d.s3 d.w0) (part3 d.s3 d.w1) (part3 e.s3 e.w0) (part3 e.s3 e.w1) (part3 f.s3 f.w0) (part3 f.s3 f.w1)
    (part3 g.s3 g.w0) (part3 g.s3 g.w1) (part3 h.s3 h.w0) (part3 h.s3 h.w1))

end Values

/-! ## The programs -/

section Programs
variable {F : FTy → Type} [FloatOps F] {nD : Nat} {τ : Topo} {sig : RefSig} {Λ : Labels} {K : Nat}

/-- The loads of group `g`. -/
def group (codes : Memref sig .tc .vmem (SCode K) .i8) (dup : Memref sig .tc .vmem (SDup K) .f32) (g : Nat) (hg : g < 8 * K) :
    Prog (TpuEff nD τ sig (Elt F) Λ .tc) (Group F) := do
  let s0 : Vec F S1x16x128 .f32 ← Prog.lift (.load dup (⟨![0, g, 0], S1x16x128.size, ![1, 0, 1], inb_dup (by decide) hg⟩ : LoadRect (SDup K)) (View.loadsAt_vmem h_S1x16x128))
  let s1 : Vec F S1x16x128 .f32 ← Prog.lift (.load dup (⟨![1, g, 0], S1x16x128.size, ![1, 0, 1], inb_dup (by decide) hg⟩ : LoadRect (SDup K)) (View.loadsAt_vmem h_S1x16x128))
  let s2 : Vec F S1x16x128 .f32 ← Prog.lift (.load dup (⟨![2, g, 0], S1x16x128.size, ![1, 0, 1], inb_dup (by decide) hg⟩ : LoadRect (SDup K)) (View.loadsAt_vmem h_S1x16x128))
  let s3 : Vec F S1x16x128 .f32 ← Prog.lift (.load dup (⟨![3, g, 0], S1x16x128.size, ![1, 0, 1], inb_dup (by decide) hg⟩ : LoadRect (SDup K)) (View.loadsAt_vmem h_S1x16x128))
  let w0 : Vec F S1x32x128 .i8 ← Prog.lift (.load codes (Rect.unit (s := SCode K) ![2 * g, 0, 0] S1x32x128.size (inb_code (by omega))).toLoadRect (View.loadsAt_vmem h_S1x32x128))
  let w1 : Vec F S1x32x128 .i8 ← Prog.lift (.load codes (Rect.unit (s := SCode K) ![2 * g + 1, 0, 0] S1x32x128.size (inb_code (by omega))).toLoadRect (View.loadsAt_vmem h_S1x32x128))
  pure ⟨s0, s1, s2, s3, w0, w1⟩

/-- The tiles of block `kt`. -/
def tiles (codes : Memref sig .tc .vmem (SCode K) .i8) (dup : Memref sig .tc .vmem (SDup K) .f32) (kt : Nat) (hk : kt < K) :
    Prog (TpuEff nD τ sig (Elt F) Λ .tc) (FVec F S256x256 .bf16 × FVec F S256x256 .bf16) := do
  let a ← group codes dup (8 * kt) (by omega)
  let b ← group codes dup (8 * kt + 1) (by omega)
  let c ← group codes dup (8 * kt + 2) (by omega)
  let d ← group codes dup (8 * kt + 3) (by omega)
  let e ← group codes dup (8 * kt + 4) (by omega)
  let f ← group codes dup (8 * kt + 5) (by omega)
  let g ← group codes dup (8 * kt + 6) (by omega)
  let h ← group codes dup (8 * kt + 7) (by omega)
  pure (tile0 a b c d e f g h, tile1 a b c d e f g h)

/-- A block's load of the activations. -/
def act (h : Memref sig .tc .vmem (SAct K) .bf16) (kt : Nat) (hk : kt < K) :
    Prog (TpuEff nD τ sig (Elt F) Λ .tc) (Vec F S32x256 .bf16) :=
  Prog.lift (.load h (Rect.unit (s := SAct K) ![0, 256 * kt] S32x256.size (inb_act hk)).toLoadRect (View.loadsAt_vmem h_S32x256))

/-- Both units' push of a block's tiles and the accumulates against them, through staging register `r`. -/
def feed (s : Mxu F) (r : Fin 2) (A : Nat) (hA : Mxu.Fits A 32) (x : Vec F S32x256 .bf16) (t : FVec F S256x256 .bf16 × FVec F S256x256 .bf16) :
    Prog (TpuEff nD τ sig (Elt F) Λ .tc) (Mxu F) := do
  let s1 ← s.pushRhs 0 r false t.1
  let s2 ← (s1.accLhs 0 r A x hA).pushRhs 1 r false t.2
  pure (s2.accLhs 1 r A x hA)

/-- The staging register of block `kt`. -/
def par (kt : Nat) : Fin 2 := ⟨kt % 2, Nat.mod_lt _ (by decide)⟩

/-- The state after a block's pushes, short of the second unit's accumulate. -/
def fed (s : Mxu F) (r : Fin 2) (A : Nat) (hA : Mxu.Fits A 32) (x : Vec F S32x256 .bf16) (t t' : FVec F S256x256 .bf16) : Mxu F :=
  ((s.pushed 0 r false t).accLhs 0 r A x hA).pushed 1 r false t'

/-- The last `n` of the `K` blocks of one matrix. -/
def blocks (h : Memref sig .tc .vmem (SAct K) .bf16) (codes : Memref sig .tc .vmem (SCode K) .i8) (dup : Memref sig .tc .vmem (SDup K) .f32) :
    (n : Nat) → n ≤ K → Mxu F → Prog (TpuEff nD τ sig (Elt F) Λ .tc) (Mxu F)
  | 0, _, s => pure s
  | n + 1, hn, s => do
    let x ← act h (K - (n + 1)) (by omega)
    let t ← tiles codes dup (K - (n + 1)) (by omega)
    let s' ← feed s (par (K - (n + 1))) 0 fits x t
    blocks h codes dup n (by omega) s'

/-- The loads of group `g`, then `k` of what they read. -/
def withGroup {α : Type} (codes : Memref sig .tc .vmem (SCode K) .i8) (dup : Memref sig .tc .vmem (SDup K) .f32) (g : Nat) (hg : g < 8 * K)
    (k : (s0 s1 s2 s3 : Vec F S1x16x128 .f32) → (w0 w1 : Vec F S1x32x128 .i8) → Prog (TpuEff nD τ sig (Elt F) Λ .tc) α) :
    Prog (TpuEff nD τ sig (Elt F) Λ .tc) α :=
  .op (.load dup (⟨![0, g, 0], S1x16x128.size, ![1, 0, 1], inb_dup (by decide) hg⟩ : LoadRect (SDup K)) (View.loadsAt_vmem h_S1x16x128)) fun s0 =>
  .op (.load dup (⟨![1, g, 0], S1x16x128.size, ![1, 0, 1], inb_dup (by decide) hg⟩ : LoadRect (SDup K)) (View.loadsAt_vmem h_S1x16x128)) fun s1 =>
  .op (.load dup (⟨![2, g, 0], S1x16x128.size, ![1, 0, 1], inb_dup (by decide) hg⟩ : LoadRect (SDup K)) (View.loadsAt_vmem h_S1x16x128)) fun s2 =>
  .op (.load dup (⟨![3, g, 0], S1x16x128.size, ![1, 0, 1], inb_dup (by decide) hg⟩ : LoadRect (SDup K)) (View.loadsAt_vmem h_S1x16x128)) fun s3 =>
  .op (.load codes (Rect.unit (s := SCode K) ![2 * g, 0, 0] S1x32x128.size (inb_code (by omega))).toLoadRect (View.loadsAt_vmem h_S1x32x128)) fun w0 =>
  .op (.load codes (Rect.unit (s := SCode K) ![2 * g + 1, 0, 0] S1x32x128.size (inb_code (by omega))).toLoadRect (View.loadsAt_vmem h_S1x32x128)) fun w1 =>
  k s0 s1 s2 s3 w0 w1

/-- What may follow a block, as a function of what the block loads. -/
abbrev Rest (F : FTy → Type) (P : Type 1) : Type 1 := Vec F S1x16x128 .f32 → Vec F S1x16x128 .f32 → Vec F S1x16x128 .f32 → Vec F S1x16x128 .f32 → Vec F S1x32x128 .i8 → Vec F S1x32x128 .i8 → P

/-- A program that starts with the operations of a block is the block followed by the rest, given that its rest is from every
    state the block may leave. -/
theorem block_congr {α : Type} (h : Memref sig .tc .vmem (SAct K) .bf16) (codes : Memref sig .tc .vmem (SCode K) .i8)
    (dup : Memref sig .tc .vmem (SDup K) .f32) {n : Nat} {hn : n + 1 ≤ K} {s : Mxu F}
    {fin : Mxu F → Prog (TpuEff nD τ sig (Elt F) Λ .tc) α} {P P' : Prog (TpuEff nD τ sig (Elt F) Λ .tc) α}
    (hP' : P' = (blocks h codes dup (n + 1) hn s >>= fin))
    {k : Vec F S32x256 .bf16 → Rest F (Rest F (Rest F (Rest F (Rest F (Rest F (Rest F (Rest F (Prog (TpuEff nD τ sig (Elt F) Λ .tc) α))))))))}
    (hP : P = (act h (K - (n + 1)) (by omega) >>= fun x =>
      withGroup codes dup (8 * (K - (n + 1))) (by omega) fun a0 a1 a2 a3 a4 a5 =>
      withGroup codes dup (8 * (K - (n + 1)) + 1) (by omega) fun b0 b1 b2 b3 b4 b5 =>
      withGroup codes dup (8 * (K - (n + 1)) + 2) (by omega) fun c0 c1 c2 c3 c4 c5 =>
      withGroup codes dup (8 * (K - (n + 1)) + 3) (by omega) fun d0 d1 d2 d3 d4 d5 =>
      withGroup codes dup (8 * (K - (n + 1)) + 4) (by omega) fun e0 e1 e2 e3 e4 e5 =>
      withGroup codes dup (8 * (K - (n + 1)) + 5) (by omega) fun f0 f1 f2 f3 f4 f5 =>
      withGroup codes dup (8 * (K - (n + 1)) + 6) (by omega) fun g0 g1 g2 g3 g4 g5 =>
      withGroup codes dup (8 * (K - (n + 1)) + 7) (by omega) fun i0 i1 i2 i3 i4 i5 =>
      .op (.assume (s.PushOk 0 (par (K - (n + 1))) false)) fun _ =>
      .op (.assume (((s.pushed 0 (par (K - (n + 1))) false (tile0 (F := F) ⟨a0, a1, a2, a3, a4, a5⟩ ⟨b0, b1, b2, b3, b4, b5⟩ ⟨c0, c1, c2, c3, c4, c5⟩ ⟨d0, d1, d2, d3, d4, d5⟩ ⟨e0, e1, e2, e3, e4, e5⟩ ⟨f0, f1, f2, f3, f4, f5⟩ ⟨g0, g1, g2, g3, g4, g5⟩ ⟨i0, i1, i2, i3, i4, i5⟩)).accLhs 0
          (par (K - (n + 1))) 0 x fits).PushOk 1 (par (K - (n + 1))) false)) fun _ =>
      k x a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5))
    (H : ∀ x
      a0 a1 a2 a3 a4 a5
      b0 b1 b2 b3 b4 b5
      c0 c1 c2 c3 c4 c5
      d0 d1 d2 d3 d4 d5
      e0 e1 e2 e3 e4 e5
      f0 f1 f2 f3 f4 f5
      g0 g1 g2 g3 g4 g5
      i0 i1 i2 i3 i4 i5
      (s' : Mxu F), fed (F := F) s (par (K - (n + 1))) 0 fits x
        (tile0 ⟨a0, a1, a2, a3, a4, a5⟩ ⟨b0, b1, b2, b3, b4, b5⟩ ⟨c0, c1, c2, c3, c4, c5⟩ ⟨d0, d1, d2, d3, d4, d5⟩ ⟨e0, e1, e2, e3, e4, e5⟩ ⟨f0, f1, f2, f3, f4, f5⟩ ⟨g0, g1, g2, g3, g4, g5⟩ ⟨i0, i1, i2, i3, i4, i5⟩)
        (tile1 ⟨a0, a1, a2, a3, a4, a5⟩ ⟨b0, b1, b2, b3, b4, b5⟩ ⟨c0, c1, c2, c3, c4, c5⟩ ⟨d0, d1, d2, d3, d4, d5⟩ ⟨e0, e1, e2, e3, e4, e5⟩ ⟨f0, f1, f2, f3, f4, f5⟩ ⟨g0, g1, g2, g3, g4, g5⟩ ⟨i0, i1, i2, i3, i4, i5⟩) = s' →
      k x a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5 =
        (blocks h codes dup n (by omega) (s'.accLhs 1 (par (K - (n + 1))) 0 x fits) >>= fin))
      : P = P' := by
  subst hP hP'
  have H' := fun x a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5 => H x a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5 _ rfl
  simp only [H']
  rfl

end Programs

end Cert.Q4

end
-- ==== Proof.Feed.lean ====
/-
  The steps around the blocks: the activations copied with their lanes reordered (`copyTiles`), the scales copied to the buffer
  the blocks read (`prepScales`).
-/
module

public import proofs.«01_k».proof.Proof.Block

@[expose] public section

set_option maxRecDepth 16384

noncomputable section

namespace Cert.Q4

open Idealize.ShloMosaic Idealize.ShloMosaic.TcCoe
open Idealize.SL.Sem

abbrev S32x128x1 : Shape := ⟨3, ![32, 128, 1]⟩
abbrev SScale (K : Nat) : Shape := ⟨2, ![8 * K, 512]⟩
abbrev SCol (K : Nat) : Shape := ⟨2, ![8 * K, 128]⟩
abbrev SCol1 (K : Nat) : Shape := ⟨3, ![1, 8 * K, 128]⟩

theorem inb_lane {K t : Nat} (h : t < 2 * K) : ∀ a, (![0, 128 * t] : Fin 2 → Nat) a + S32x128.size a ≤ (SAct K).size a := by
  intro a; fin_cases a <;> simp <;> omega
theorem packed_lane {K t : Nat} (h : t < 2 * K) :
    (Rect.unit (s := SAct K) ![0, 128 * t] S32x128.size (inb_lane h)).PackedRows (EltTy.packing .bf16) :=
  .inr ⟨Nat.le_refl 2, rfl, .inl ⟨⟨0, rfl⟩, ⟨16, rfl⟩⟩⟩
theorem h_S32x128 : 0 < S32x128.numel := by decide

/-- The lane each lane of 128 takes its value from: within 32 lanes, even lanes from the first 16 and odd lanes from the last. -/
def laneIdx : IVec S32x128 32 :=
  let l : IVec S32x128 32 := iota .tc S32x128 32 [1] (by decide)
  ori (ori (andi l (broadcast S32x128 4294967264#32)) (shli (andi l (broadcast S32x128 1#32)) (broadcast S32x128 4#32)))
    (shrsi (andi l (broadcast S32x128 31#32)) (broadcast S32x128 1#32))

section Programs
variable {F : FTy → Type} [FloatOps F] {nD : Nat} {τ : Topo} {sig : RefSig} {Λ : Labels} {K : Nat}

/-- 128 lanes of activations reordered. -/
def reorder (x : FVec F S32x128 .bf16) : FVec F S32x128 .bf16 :=
  truncf .bf16 (dynamicGather 1 (extf .f32 x (by decide)) (shapeCast S32x128 (shapeCast S32x128x1
    (select (cmpi .slt laneIdx (broadcast S32x128 0#32)) (addi laneIdx (broadcast S32x128 128#32)) laneIdx) (by decide)) (by decide))) (by decide)

/-- The store of a 128-lane tile. -/
def putTile (h : Memref sig .tc .vmem (SAct K) .bf16) (hh : h.IsWhole) (t : Nat) (ht : t < 2 * K) (x : FVec F S32x128 .bf16) :
    Prog (TpuEff nD τ sig (Elt F) Λ .tc) PUnit := do
  let _ : Vec F S32x128 .bf16 ← Prog.lift (.load h (Rect.unit (s := SAct K) ![0, 128 * t] S32x128.size (inb_lane ht)).toLoadRect (View.loadsAt_vmem h_S32x128))
  Prog.lift (.store h (Rect.unit (s := SAct K) ![0, 128 * t] S32x128.size (inb_lane ht)) (shapeCast S32x128 x (by decide)) Finset.univ
    (View.stores_vmem h_S32x128 (hh.storeExact_slice rfl _ (packed_lane ht)) (fun _ => rfl)) (.inl rfl))

/-- `n` tiles of activations from tile `t` on, reordered and copied. -/
def copyTiles (a h : Memref sig .tc .vmem (SAct K) .bf16) (hh : h.IsWhole) :
    (n t : Nat) → t + n ≤ 2 * K → Prog (TpuEff nD τ sig (Elt F) Λ .tc) PUnit
  | 0, _, _ => pure ⟨⟩
  | n + 1, t, ht => do
    let x : Vec F S32x128 .bf16 ← Prog.lift (.load a (Rect.unit (s := SAct K) ![0, 128 * t] S32x128.size (inb_lane (by omega))).toLoadRect (View.loadsAt_vmem h_S32x128))
    putTile h hh t (by omega) (reorder x)
    copyTiles a h hh n (t + 1) (by omega)

theorem inb_scale {K c : Nat} (h : c < 4) : ∀ a, (![0, 128 * c] : Fin 2 → Nat) a + (SCol K).size a ≤ (SScale K).size a := by
  intro a; fin_cases a <;> simp <;> omega
theorem inb_col {K c : Nat} (h : c < 4) : ∀ a, (![c, 0, 0] : Fin 3 → Nat) a + (SCol1 K).size a ≤ (SDup K).size a := by
  intro a; fin_cases a <;> simp <;> omega
theorem h_SCol (hK : 0 < K) : 0 < (SCol K).numel := by
  simp [Shape.numel, Fin.prod_univ_succ]; omega
theorem h_SCol1 (hK : 0 < K) : 0 < (SCol1 K).numel := by
  simp [Shape.numel, Fin.prod_univ_succ]; omega
theorem casts_col : (SCol K).ShapeCasts (SCol K) := by simp [Shape.ShapeCasts]
theorem casts_col1 : (SCol K).ShapeCasts (SCol1 K) := by simp [Shape.ShapeCasts, Shape.numel, Fin.prod_univ_succ]

/-- Column tile `c` of the scales copied. -/
def prepCol (hK : 0 < K) (s : Memref sig .tc .vmem (SScale K) .bf16) (dup : Memref sig .tc .vmem (SDup K) .f32) (c : Nat) (hc : c < 4) :
    Prog (TpuEff nD τ sig (Elt F) Λ .tc) PUnit := do
  let x : Vec F (SCol K) .bf16 ← Prog.lift (.load s (Rect.unit (s := SScale K) ![0, 128 * c] (SCol K).size (inb_scale hc)).toLoadRect (View.loadsAt_vmem (h_SCol hK)))
  let _ : Vec F (SCol1 K) .f32 ← Prog.lift (.load dup (Rect.unit (s := SDup K) ![c, 0, 0] (SCol1 K).size (inb_col hc)).toLoadRect (View.loadsAt_vmem (h_SCol1 hK)))
  Prog.lift (.store dup (Rect.unit (s := SDup K) ![c, 0, 0] (SCol1 K).size (inb_col hc))
    (shapeCast (SCol1 K) (extf .f32 (shapeCast (SCol K) x casts_col) (by decide)) casts_col1) Finset.univ
    (View.stores_vmem_bits_univ (h_SCol1 hK) rfl) (.inl rfl))

def prepScales (hK : 0 < K) (s : Memref sig .tc .vmem (SScale K) .bf16) (dup : Memref sig .tc .vmem (SDup K) .f32) :
    Prog (TpuEff nD τ sig (Elt F) Λ .tc) PUnit := do
  prepCol hK s dup 0 (by decide)
  prepCol hK s dup 1 (by decide)
  prepCol hK s dup 2 (by decide)
  prepCol hK s dup 3 (by decide)

abbrev S32x512 : Shape := ⟨2, ![32, 512]⟩
theorem inb_out {c : Nat} (h : c < 2) : ∀ a, (![0, 256 * c] : Fin 2 → Nat) a + S32x256.size a ≤ S32x512.size a := by
  intro a; fin_cases a <;> simp <;> omega

theorem packed_out {c : Nat} (h : c < 2) :
    (Rect.unit (s := S32x512) ![0, 256 * c] S32x256.size (inb_out h)).PackedRows (EltTy.packing .bf16) :=
  .inr ⟨Nat.le_refl 2, rfl, .inl ⟨⟨0, rfl⟩, ⟨16, rfl⟩⟩⟩

/-- The 256 columns of unit `c` popped, the residual added, stored. -/
def putOut (s : Mxu F) (c : Fin 2) (r : Memref sig .tc .vmem S32x512 .f32) (o : Memref sig .tc .vmem S32x512 .bf16) (ho : o.IsWhole) :
    Prog (TpuEff nD τ sig (Elt F) Λ .tc) (Mxu F) := do
  let x : Vec F S32x256 .f32 ← Prog.lift (.load r (Rect.unit (s := S32x512) ![0, 256 * c.val] S32x256.size (inb_out c.isLt)).toLoadRect (View.loadsAt_vmem h_S32x256))
  let _ : Vec F S32x256 .bf16 ← Prog.lift (.load o (Rect.unit (s := S32x512) ![0, 256 * c.val] S32x256.size (inb_out c.isLt)).toLoadRect (View.loadsAt_vmem h_S32x256))
  Prog.lift (.store o (Rect.unit (s := S32x512) ![0, 256 * c.val] S32x256.size (inb_out c.isLt))
    (truncf .bf16 (addf x (s.read c 0 fits) : FVec F S32x256 .f32) (by decide)) Finset.univ
    (View.stores_vmem h_S32x256 (ho.storeExact_slice rfl _ (packed_out c.isLt)) (fun _ => rfl)) (.inl rfl))
  pure (s.pop c 0 32 fits)

/-- The projection's body, after the copy of the activations. -/
def projBody (hK : 0 < K) (r : Memref sig .tc .vmem S32x512 .f32)
    (codes : Memref sig .tc .vmem (SCode K) .i8) (sc : Memref sig .tc .vmem (SScale K) .bf16)
    (o : Memref sig .tc .vmem S32x512 .bf16) (ho : o.IsWhole)
    (h : Memref sig .tc .vmem (SAct K) .bf16) (dup : Memref sig .tc .vmem (SDup K) .f32) :
    Prog (TpuEff nD τ sig (Elt F) Λ .tc) PUnit := do
  prepScales hK sc dup
  let s ← blocks h codes dup K (Nat.le_refl K) Mxu.init
  let s1 ← putOut s 0 r o ho
  let s2 ← putOut s1 1 r o ho
  s2.exit

end Programs

end Cert.Q4

end
-- ==== Proof.Reads.lean ====
/-
  What the steps of Block.lean and Feed.lean do to the buffers they are given: `Reads` says that a program leaves the buffers of an
  assertion as they are and returns one value; the store steps change the contents of one buffer.
-/
module

public import proofs.«01_k».proof.Proof.Feed
public import Idealize.ShloMosaic.Lib.Memref
public import Idealize.ShloMosaic.Lib.VecWindow
public import Idealize.ShloMosaic.Lib.Claim
public import Idealize.ShloMosaic.Lib.Pipeline.FrameBody

@[expose] public section

set_option maxRecDepth 16384

noncomputable section

namespace Cert.Q4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ : Labels} {K : Nat}

local notation "𝕄" => MT nD τ sig Unit (Elt F) ℕ (UR sig nD τ) ℕ

variable (defs : Defs nD τ sig (Elt F) Λ) (𝒱 : Variants) (c : Dev nD) (E : Set ℕ)

/-- What a load reads of contents `X`. -/
def at_ {s : Shape} {e : EltTy} (X : s.Idx → Elt F e) (r : LoadRect s) : r.shape.Idx → Elt F e := fun j => X (r.idx j)

/-- `R` holds buffer `m` at contents `X`, and is whole again with it. -/
abbrev Holds {s : Shape} {e : EltTy} (R : sProp 𝕄) (m : Memref sig .tc .vmem s e) (X : s.Idx → Elt F e) : Prop :=
  R ⊢ iprop(owns (c : Thread nD τ) m fullShare X ∗ (owns (c : Thread nD τ) m fullShare X -∗ R))

/-- From what `R` holds, `p` returns `v` and leaves `R'`. -/
def Steps {α : Type} (R : sProp 𝕄) (p : Prog (TpuEff nD τ sig (Elt F) Λ .tc) α) (v : α) (R' : sProp 𝕄) : Prop :=
  ∀ Q : α → sProp 𝕄, iprop(R ∗ (R' -∗ Q v)) ⊢ wp frame (wpE defs 𝒱 (c : Thread nD τ) none) E p Q

/-- `p` gives back what it holds, `R`, and returns `v`. -/
abbrev Reads {α : Type} (R : sProp 𝕄) (p : Prog (TpuEff nD τ sig (Elt F) Λ .tc) α) (v : α) : Prop := Steps defs 𝒱 c E R p v R

variable {defs 𝒱 c E}

theorem Reads.pure {α : Type} (R : sProp 𝕄) (v : α) : Reads defs 𝒱 c E R (pure v) v := fun Q => by
  refine BIBase.Entails.trans ?_ (le_wp_ret _ _ _ v Q)
  exact wand_elim_right

theorem Steps.done {α : Type} {R R' : sProp 𝕄} (v : α) (h : R = R') : Steps defs 𝒱 c E R (Pure.pure v) v R' := h ▸ Reads.pure R v

theorem Steps.bind {α β : Type} {R R' R'' : sProp 𝕄} {p : Prog (TpuEff nD τ sig (Elt F) Λ .tc) α} {k : α → Prog (TpuEff nD τ sig (Elt F) Λ .tc) β}
    {v : α} {w : β} (hp : Steps defs 𝒱 c E R p v R') (hk : Steps defs 𝒱 c E R' (k v) w R'') : Steps defs 𝒱 c E R (p >>= k) w R'' := fun Q => by
  rw [wp_bind]
  refine BIBase.Entails.trans ?_ (hp _)
  iintro ⟨HR, HQ⟩
  isplitl [HR]; · iexact HR
  iintro HR
  iapply (hk Q)
  isplitl [HR]; · iexact HR
  iexact HQ

theorem Steps.assume {α : Type} {R R' : sProp 𝕄} {P : Prop} {d : Decidable P} {k : PLift P → Prog (TpuEff nD τ sig (Elt F) Λ .tc) α} {v : α} (h : P)
    (hk : Steps defs 𝒱 c E R (k ⟨h⟩) v R') : Steps defs 𝒱 c E R (.op (.assume P d) k) v R' := fun Q => by
  refine (hk Q).trans ?_
  exact wp_assume (defs := defs) (c := (c : Thread nD τ)) 𝒱 none E h

theorem Reads.load {R : sProp 𝕄} {s : Shape} {e : EltTy} {m : Memref sig .tc .vmem s e} {X : s.Idx → Elt F e} {r : LoadRect s} {hl : m.view.LoadsAt r}
    (hR : R ⊢ iprop(owns (c : Thread nD τ) m fullShare X ∗ (owns (c : Thread nD τ) m fullShare X -∗ R))) :
    Reads defs 𝒱 c E R (Prog.lift (.load m r hl)) (at_ X r) := fun Q => by
  refine (sep_mono_left hR).trans ?_
  unfold owns
  iintro ⟨⟨⟨%f, %hf, H⟩, HB⟩, HQ⟩
  subst hf
  rw [show at_ (m.view.read (Elt F) f) r = m.view.readAt (Elt F) r f from rfl]
  iapply (wp_load (defs := defs) (c := (c : Thread nD τ)) 𝒱 none E (m := m) (r := r) (hl := hl) (k := Prog.ret) (View.setOn_subset_set _ _)) $$ H
  iintro H
  iapply (le_wp_ret _ _ _ (m.view.readAt (Elt F) r f) Q)
  iapply HQ
  iapply HB
  iexists f; isplitr; · ipureintro; rfl
  iexact H

/-- A store of a box leaves its buffer with the payload put there. -/
theorem Steps.store {R R' : sProp 𝕄} {s : Shape} {e : EltTy} {m : Memref sig .tc .vmem s e} {X : s.Idx → Elt F e}
    {off size : Fin s.rank → ℕ} {inb : ∀ a, off a + size a ≤ s.size a} {w : (Rect.unit off size inb).shape.Idx → Elt F e}
    {hx : (m.access (Rect.unit off size inb)).Stores Finset.univ} {hm}
    (hR : R ⊢ iprop(owns (c : Thread nD τ) m fullShare X ∗ (owns (c : Thread nD τ) m fullShare (VecWindow.put X off size w) -∗ R'))) :
    Steps defs 𝒱 c E R (Prog.lift (.store m (Rect.unit off size inb) w Finset.univ hx hm)) ⟨⟩ R' := fun Q => by
  refine (sep_mono_left hR).trans ?_
  unfold owns
  iintro ⟨⟨⟨%f, %hf, H⟩, HB⟩, HQ⟩
  subst hf
  iapply (wp_store (defs := defs) (c := (c : Thread nD τ)) 𝒱 none E (m := m) (r := Rect.unit off size inb) (w := w) (hx := hx) (hm := hm) (k := Prog.ret)
    ((View.setOn_subset_set _ _).trans (View.set_slice_subset _ _))) $$ H
  iintro H
  iapply (le_wp_ret _ _ _ ⟨⟩ Q)
  iapply HQ
  iapply HB
  iexists ((m.access (Rect.unit off size inb)).write (Elt F) f w Finset.univ); isplitr
  · ipureintro
    have := View.read_writes_cons_put m.view f inb w [] rfl
    exact this
  iexact H

end Cert.Q4

end
-- ==== Proof.Run.lean ====
/-
  The state of a call's buffers (`St`), what its blocks read and compute as plain functions of the buffers' contents (`groupV`,
  `tilesV`, `runS`), and what each step of the body does to the state.
-/
module

public import proofs.«01_k».proof.Proof.Reads

@[expose] public section

set_option maxRecDepth 16384

noncomputable section

namespace Cert.Q4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ : Labels} {K : Nat}

local notation "𝕄" => MT nD τ sig Unit (Elt F) ℕ (UR sig nD τ) ℕ

/-- The buffers of a call: activations, residual, codes, scales, output, reordered activations, copied scales. -/
structure Bufs (sig : RefSig) (K : Nat) where
  a : Memref sig .tc .vmem (SAct K) .bf16
  r : Memref sig .tc .vmem S32x512 .f32
  codes : Memref sig .tc .vmem (SCode K) .i8
  sc : Memref sig .tc .vmem (SScale K) .bf16
  o : Memref sig .tc .vmem S32x512 .bf16
  h : Memref sig .tc .vmem (SAct K) .bf16
  dup : Memref sig .tc .vmem (SDup K) .f32

/-- Their contents. -/
structure Vals (F : FTy → Type) (K : Nat) where
  a : Vec F (SAct K) .bf16
  r : Vec F S32x512 .f32
  codes : Vec F (SCode K) .i8
  sc : Vec F (SScale K) .bf16
  o : Vec F S32x512 .bf16
  h : Vec F (SAct K) .bf16
  dup : Vec F (SDup K) .f32

/-- The buffers held with these contents. -/
def St (c : Dev nD) (B : Bufs sig K) (V : Vals F K) : sProp 𝕄 :=
  iprop(owns (c : Thread nD τ) B.a fullShare V.a ∗ owns (c : Thread nD τ) B.r fullShare V.r ∗ owns (c : Thread nD τ) B.codes fullShare V.codes
    ∗ owns (c : Thread nD τ) B.sc fullShare V.sc ∗ owns (c : Thread nD τ) B.o fullShare V.o ∗ owns (c : Thread nD τ) B.h fullShare V.h
    ∗ owns (c : Thread nD τ) B.dup fullShare V.dup)

section Holds
variable (c : Dev nD) (B : Bufs sig K) (V : Vals F K)

theorem St.a : (St c B V : sProp 𝕄) ⊢ iprop(owns (c : Thread nD τ) B.a fullShare V.a ∗ (owns (c : Thread nD τ) B.a fullShare V.a -∗ St c B V)) := by
  unfold St; iintro ⟨Ha, Hr, Hc, Hs, Ho, Hh, Hd⟩
  isplitl [Ha]; · iexact Ha
  iintro Ha; iframe
theorem St.r : (St c B V : sProp 𝕄) ⊢ iprop(owns (c : Thread nD τ) B.r fullShare V.r ∗ (owns (c : Thread nD τ) B.r fullShare V.r -∗ St c B V)) := by
  unfold St; iintro ⟨Ha, Hr, Hc, Hs, Ho, Hh, Hd⟩
  isplitl [Hr]; · iexact Hr
  iintro Hr; iframe
theorem St.codes : (St c B V : sProp 𝕄) ⊢ iprop(owns (c : Thread nD τ) B.codes fullShare V.codes ∗ (owns (c : Thread nD τ) B.codes fullShare V.codes -∗ St c B V)) := by
  unfold St; iintro ⟨Ha, Hr, Hc, Hs, Ho, Hh, Hd⟩
  isplitl [Hc]; · iexact Hc
  iintro Hc; iframe
theorem St.sc : (St c B V : sProp 𝕄) ⊢ iprop(owns (c : Thread nD τ) B.sc fullShare V.sc ∗ (owns (c : Thread nD τ) B.sc fullShare V.sc -∗ St c B V)) := by
  unfold St; iintro ⟨Ha, Hr, Hc, Hs, Ho, Hh, Hd⟩
  isplitl [Hs]; · iexact Hs
  iintro Hs; iframe
theorem St.o (X : Vec F S32x512 .bf16) : (St c B V : sProp 𝕄) ⊢ iprop(owns (c : Thread nD τ) B.o fullShare V.o ∗ (owns (c : Thread nD τ) B.o fullShare X -∗ St c B { V with o := X })) := by
  unfold St; iintro ⟨Ha, Hr, Hc, Hs, Ho, Hh, Hd⟩
  isplitl [Ho]; · iexact Ho
  iintro Ho; iframe
theorem St.h (X : Vec F (SAct K) .bf16) : (St c B V : sProp 𝕄) ⊢ iprop(owns (c : Thread nD τ) B.h fullShare V.h ∗ (owns (c : Thread nD τ) B.h fullShare X -∗ St c B { V with h := X })) := by
  unfold St; iintro ⟨Ha, Hr, Hc, Hs, Ho, Hh, Hd⟩
  isplitl [Hh]; · iexact Hh
  iintro Hh; iframe
theorem St.dup (X : Vec F (SDup K) .f32) : (St c B V : sProp 𝕄) ⊢ iprop(owns (c : Thread nD τ) B.dup fullShare V.dup ∗ (owns (c : Thread nD τ) B.dup fullShare X -∗ St c B { V with dup := X })) := by
  unfold St; iintro ⟨Ha, Hr, Hc, Hs, Ho, Hh, Hd⟩
  isplitl [Hd]; · iexact Hd
  iintro Hd; iframe

end Holds

/-! ## The blocks -/

/-- What group `g` reads from scales `D` and codes `C`. -/
def groupV (C : Vec F (SCode K) .i8) (D : Vec F (SDup K) .f32) (g : Nat) (hg : g < 8 * K) : Group F where
  s0 := at_ D (⟨![0, g, 0], S1x16x128.size, ![1, 0, 1], inb_dup (by decide) hg⟩ : LoadRect (SDup K))
  s1 := at_ D (⟨![1, g, 0], S1x16x128.size, ![1, 0, 1], inb_dup (by decide) hg⟩ : LoadRect (SDup K))
  s2 := at_ D (⟨![2, g, 0], S1x16x128.size, ![1, 0, 1], inb_dup (by decide) hg⟩ : LoadRect (SDup K))
  s3 := at_ D (⟨![3, g, 0], S1x16x128.size, ![1, 0, 1], inb_dup (by decide) hg⟩ : LoadRect (SDup K))
  w0 := at_ C (Rect.unit (s := SCode K) ![2 * g, 0, 0] S1x32x128.size (inb_code (by omega))).toLoadRect
  w1 := at_ C (Rect.unit (s := SCode K) ![2 * g + 1, 0, 0] S1x32x128.size (inb_code (by omega))).toLoadRect

/-- The tiles of block `kt`. -/
def tilesV (C : Vec F (SCode K) .i8) (D : Vec F (SDup K) .f32) (kt : Nat) (hk : kt < K) : FVec F S256x256 .bf16 × FVec F S256x256 .bf16 :=
  let g (i : Nat) (hi : i < 8) := groupV C D (8 * kt + i) (by omega)
  (tile0 (g 0 (by decide)) (g 1 (by decide)) (g 2 (by decide)) (g 3 (by decide)) (g 4 (by decide)) (g 5 (by decide)) (g 6 (by decide)) (g 7 (by decide)),
    tile1 (g 0 (by decide)) (g 1 (by decide)) (g 2 (by decide)) (g 3 (by decide)) (g 4 (by decide)) (g 5 (by decide)) (g 6 (by decide)) (g 7 (by decide)))

/-- A block's activations. -/
def actV (X : Vec F (SAct K) .bf16) (kt : Nat) (hk : kt < K) : Vec F S32x256 .bf16 :=
  at_ X (Rect.unit (s := SAct K) ![0, 256 * kt] S32x256.size (inb_act hk)).toLoadRect

/-- The units' state after a block. -/
def stepS (s : Mxu F) (r : Fin 2) (A : Nat) (hA : Mxu.Fits A 32) (x : Vec F S32x256 .bf16) (t : FVec F S256x256 .bf16 × FVec F S256x256 .bf16) : Mxu F :=
  (fed s r A hA x t.1 t.2).accLhs 1 r A x hA

/-- The units' state after the last `n` blocks. -/
def runS (X : Vec F (SAct K) .bf16) (C : Vec F (SCode K) .i8) (D : Vec F (SDup K) .f32) : (n : Nat) → n ≤ K → Mxu F → Mxu F
  | 0, _, s => s
  | n + 1, hn, s => runS X C D n (by omega) (stepS s (par (K - (n + 1))) 0 fits (actV X (K - (n + 1)) (by omega)) (tilesV C D (K - (n + 1)) (by omega)))

/-- No tile is staged. -/
def Empty (s : Mxu F) : Prop := ∀ q r, s.reg q r = none

theorem reg_fed (s : Mxu F) (hs : Empty s) (r : Fin 2) (A : Nat) (hA : Mxu.Fits A 32) (x : Vec F S32x256 .bf16) (t t' : FVec F S256x256 .bf16) (r' : Fin 2) :
    ((s.pushed 0 r false t).accLhs 0 r A x hA).reg 1 r' = none := by
  rw [Mxu.reg_accLhs_ne (hne := by simp), Mxu.reg_pushed_ne (hne := by simp), hs]

theorem Empty.stepS {s : Mxu F} (hs : Empty s) (r : Fin 2) (A : Nat) (hA : Mxu.Fits A 32) (x : Vec F S32x256 .bf16) (t : FVec F S256x256 .bf16 × FVec F S256x256 .bf16) :
    Empty (stepS s r A hA x t) := fun q' r' => by
  unfold Q4.stepS fed
  by_cases h1 : q' = 1 ∧ r' = r
  · obtain ⟨rfl, rfl⟩ := h1; exact Mxu.reg_accLhs ..
  rw [Mxu.reg_accLhs_ne (hne := h1), Mxu.reg_pushed_ne (hne := h1)]
  by_cases h0 : q' = 0 ∧ r' = r
  · obtain ⟨rfl, rfl⟩ := h0; simp
  rw [Mxu.reg_accLhs_ne (hne := h0), Mxu.reg_pushed_ne (hne := h0), hs]

theorem Empty.runS {X : Vec F (SAct K) .bf16} {C : Vec F (SCode K) .i8} {D : Vec F (SDup K) .f32} :
    (n : Nat) → (hn : n ≤ K) → (s : Mxu F) → Empty s → Empty (runS X C D n hn s)
  | 0, _, s, hs => hs
  | n + 1, hn, s, hs => Empty.runS n _ _ (hs.stepS _ _ _ _ _)

section Steps
variable {defs : Defs nD τ sig (Elt F) Λ} {𝒱 : Variants} {c : Dev nD} {E : Set ℕ}

section
variable {codes : Memref sig .tc .vmem (SCode K) .i8} {dup : Memref sig .tc .vmem (SDup K) .f32} {C : Vec F (SCode K) .i8} {D : Vec F (SDup K) .f32}

theorem reads_group {R : sProp 𝕄} (hc : Holds c R codes C) (hd : Holds c R dup D) (g : Nat) (hg : g < 8 * K) : Reads defs 𝒱 c E R (group codes dup g hg) (groupV C D g hg) := by
  refine (Reads.load hd).bind <| (Reads.load hd).bind <| (Reads.load hd).bind <| (Reads.load hd).bind <| (Reads.load hc).bind <| (Reads.load hc).bind ?_
  exact Reads.pure _ _

theorem reads_tiles {R : sProp 𝕄} (hc : Holds c R codes C) (hd : Holds c R dup D) (kt : Nat) (hk : kt < K) : Reads defs 𝒱 c E R (tiles codes dup kt hk) (tilesV C D kt hk) := by
  refine (reads_group hc hd _ _).bind <| (reads_group hc hd _ _).bind <| (reads_group hc hd _ _).bind <| (reads_group hc hd _ _).bind <|
    (reads_group hc hd _ _).bind <| (reads_group hc hd _ _).bind <| (reads_group hc hd _ _).bind <| (reads_group hc hd _ _).bind ?_
  exact Reads.pure _ _

theorem reads_feed {R : sProp 𝕄} (s : Mxu F) (hs : Empty s) (r : Fin 2) (A : Nat) (hA : Mxu.Fits A 32) (x : Vec F S32x256 .bf16) (t : FVec F S256x256 .bf16 × FVec F S256x256 .bf16) :
    Reads defs 𝒱 c E R (feed s r A hA x t) (stepS s r A hA x t) := by
  refine Steps.assume (Mxu.pushOk_of_none s 0 r false (hs 0 r)) ?_
  refine Steps.assume (Mxu.pushOk_of_none _ 1 r false (reg_fed s hs r A hA x t.1 t.2 r)) ?_
  exact Reads.pure _ _

end

variable (B : Bufs sig K) (V : Vals F K)

theorem reads_blocks : (n : Nat) → (hn : n ≤ K) → (s : Mxu F) → Empty s →
    Reads defs 𝒱 c E (St c B V) (blocks B.h B.codes B.dup n hn s) (runS V.h V.codes V.dup n hn s)
  | 0, _, s, _ => Reads.pure _ _
  | n + 1, hn, s, hs => by
    refine (Reads.load (St.h c B V V.h)).bind <| (reads_tiles (St.codes c B V) (St.dup c B V V.dup) _ _).bind <| (reads_feed s hs _ _ _ _ _).bind ?_
    exact reads_blocks n (by omega) _ (hs.stepS _ _ _ _ _)

end Steps

end Cert.Q4

end
-- ==== Proof.Content.lean ====
/-
  The contents the stores of the body leave: the copied scales (`dupV`), the reordered activations (`reordV`), the output (`outV`).
-/
module

public import proofs.«01_k».proof.Proof.Run
public import Idealize.ShloMosaic.Lib.ValueLayout
public import Idealize.ShloMosaic.Lib.Pipeline.Value

@[expose] public section

set_option maxRecDepth 16384

noncomputable section

namespace Cert.Q4

open Idealize.ShloMosaic Idealize.ShloMosaic.TcCoe Idealize.ShloMosaic.ValueIdx

variable {F : FTy → Type} [FloatOps F] {K : Nat}

/-- The scales as the blocks read them: column tile, group, lane. -/
def dupV (S : Vec F (SScale K) .bf16) : Vec F (SDup K) .f32 := fun y =>
  FloatOps.extf .f32 (by decide : FTy.bf16.bits < FTy.f32.bits) (S (ix2 (⟨(y 1).val, (y 1).isLt⟩ : Fin (8 * K)) (⟨128 * (y 0).val + (y 2).val, by
    have h0 : (y 0).val < 4 := (y 0).isLt
    have h2 : (y 2).val < 128 := (y 2).isLt
    omega⟩ : Fin 512)))

theorem put_col (S : Vec F (SScale K) .bf16) (D : Vec F (SDup K) .f32) (c : Nat) (hc : c < 4) :
    VecWindow.put D ![c, 0, 0] (SCol1 K).size (shapeCast (SCol1 K) (extf .f32 (shapeCast (SCol K)
      (at_ S (Rect.unit (s := SScale K) ![0, 128 * c] (SCol K).size (inb_scale hc)).toLoadRect : FVec F (SCol K) .bf16) casts_col) (by decide)) casts_col1)
      = fun y => if (y 0).val = c then dupV S y else D y := by
  funext y
  unfold VecWindow.put
  have h1 : (y 1).val < 8 * K := (y 1).isLt
  have h2 : (y 2).val < 128 := (y 2).isLt
  by_cases h : (y 0).val = c
  · rw [if_pos h, dif_pos (fun a => by match a with | 0 => simp; try omega | 1 => simp; try omega | 2 => simp; try omega)]
    rw [shapeCast_addUnit_apply ![8 * K, 128]]
    refine congrArg (FloatOps.extf .f32 _) ((congrFun (shapeCast_self _ _) _).trans (congrArg S ?_))
    funext a
    match a with
    | 0 => apply Fin.ext; show 0 + 1 * ((y 1).val - 0) = (y 1).val; omega
    | 1 => apply Fin.ext; show 128 * c + 1 * ((y 2).val - 0) = 128 * (y 0).val + (y 2).val; omega
  · rw [if_neg h, dif_neg]
    intro hh
    have := hh 0
    simp at this
    omega

/-- The four stores of the scales leave `dupV`, whatever was there. -/
theorem put_cols (S : Vec F (SScale K) .bf16) (D : Vec F (SDup K) .f32) :
    (fun y => if (y 0).val = 3 then dupV S y else (fun y => if (y 0).val = 2 then dupV S y else (fun y => if (y 0).val = 1 then dupV S y else
      (fun y => if (y 0).val = 0 then dupV S y else D y : Vec F (SDup K) .f32) y : Vec F (SDup K) .f32) y : Vec F (SDup K) .f32) y : Vec F (SDup K) .f32) = dupV S := by
  funext y
  have h0 : (y 0).val < 4 := (y 0).isLt
  dsimp only
  split_ifs <;> first | rfl | omega

theorem div128 {K n : Nat} (h : n < 256 * K) : n / 128 < 2 * K := by omega

/-- The activations with each tile of 128 lanes reordered. -/
def reordV (A : Vec F (SAct K) .bf16) : Vec F (SAct K) .bf16 := fun y =>
  reorder (at_ A (Rect.unit (s := SAct K) ![0, 128 * ((y 1).val / 128)] S32x128.size (inb_lane (div128 (y 1).isLt))).toLoadRect : FVec F S32x128 .bf16)
    (ix2 (⟨(y 0).val, (y 0).isLt⟩ : Fin 32) (⟨(y 1).val % 128, Nat.mod_lt _ (by decide)⟩ : Fin 128))

/-- The activations' copy after `t` tiles. -/
def partV (t : Nat) (A X : Vec F (SAct K) .bf16) : Vec F (SAct K) .bf16 := fun y => if (y 1).val < 128 * t then reordV A y else X y

theorem partV_zero (A X : Vec F (SAct K) .bf16) : partV 0 A X = X := by
  funext y; simp [partV]

theorem partV_all (A X : Vec F (SAct K) .bf16) : partV (2 * K) A X = reordV A := by
  funext y
  have : (y 1).val < 256 * K := (y 1).isLt
  exact if_pos (by omega)

theorem put_tile (t : Nat) (ht : t < 2 * K) (A X : Vec F (SAct K) .bf16) :
    VecWindow.put (partV t A X) ![0, 128 * t] S32x128.size (shapeCast S32x128
      (reorder (at_ A (Rect.unit (s := SAct K) ![0, 128 * t] S32x128.size (inb_lane ht)).toLoadRect : FVec F S32x128 .bf16)) (by decide))
      = partV (t + 1) A X := by
  funext y
  unfold VecWindow.put partV
  have h0 : (y 0).val < 32 := (y 0).isLt
  have h1 : (y 1).val < 256 * K := (y 1).isLt
  by_cases h : 128 * t ≤ (y 1).val ∧ (y 1).val < 128 * t + 128
  · rw [dif_pos (fun a => by match a with | 0 => simp; try omega | 1 => simp; try omega), if_pos (by omega), shapeCast_self]
    obtain rfl : t = (y 1).val / 128 := by omega
    unfold reordV
    congr 1
    funext a
    fin_cases a <;> apply Fin.ext <;> simp [Rect.unitLocal] <;> omega
  · rw [dif_neg (by intro hh; have := hh 1; simp at this; omega)]
    by_cases h' : (y 1).val < 128 * t
    · rw [if_pos h', if_pos (by omega)]
    · rw [if_neg h', if_neg (by omega)]

/-- The output: the residual plus what the unit of the column's half holds. -/
def outV (r : Vec F S32x512 .f32) (s : Mxu F) : Vec F S32x512 .bf16 := fun y =>
  FloatOps.truncf .bf16 (by decide : FTy.bf16.bits < FTy.f32.bits) (FloatOps.addf (r y) (s.acc ⟨(y 1).val / 256, by have h : (y 1).val < 512 := (y 1).isLt; omega⟩
    ⟨(y 0).val, by have h : (y 0).val < 32 := (y 0).isLt; omega⟩ ⟨(y 1).val % 256, Nat.mod_lt _ (by decide)⟩))

/-- What unit `q`'s half of the output is stored from. -/
def halfV (r : Vec F S32x512 .f32) (s : Mxu F) (q : Fin 2) : FVec F S32x256 .bf16 :=
  truncf .bf16 (addf (at_ r (Rect.unit (s := S32x512) ![0, 256 * q.val] S32x256.size (inb_out q.isLt)).toLoadRect : FVec F S32x256 .f32) (s.read q 0 fits)) (by decide)

theorem put_half (r : Vec F S32x512 .f32) (s : Mxu F) (O : Vec F S32x512 .bf16) (q : Fin 2) :
    VecWindow.put O ![0, 256 * q.val] S32x256.size (halfV r s q) = fun y => if (y 1).val / 256 = q.val then outV r s y else O y := by
  funext y
  unfold VecWindow.put
  have h0 : (y 0).val < 32 := (y 0).isLt
  have h1 : (y 1).val < 512 := (y 1).isLt
  by_cases h : (y 1).val / 256 = q.val
  · rw [if_pos h, dif_pos (fun a => by match a with | 0 => simp; try omega | 1 => simp; try omega)]
    refine congrArg (FloatOps.truncf .bf16 _) (congrArg₂ FloatOps.addf (congrArg r ?_) ?_)
    · funext a
      match a with
      | 0 => apply Fin.ext; simp [Rect.unitLocal]
      | 1 => apply Fin.ext; simp [Rect.unitLocal]; omega
    · show s.acc q _ _ = s.acc _ _ _
      have e0 : Mxu.row fits (Rect.unitLocal (s := S32x512) (off := ![0, 256 * q.val]) (size := S32x256.size) y (by
          intro a; match a with | 0 => simp; try omega | 1 => simp; try omega) 0) = (⟨(y 0).val, by omega⟩ : Fin 1024) := by
        apply Fin.ext; show 4 * 0 + ((y 0).val - 0) = _; simp
      have e1 : q = ⟨(y 1).val / 256, by omega⟩ := Fin.ext h.symm
      have e2 : (Rect.unitLocal (s := S32x512) (off := ![0, 256 * q.val]) (size := S32x256.size) y (by
          intro a; match a with | 0 => simp; try omega | 1 => simp; try omega) 1) = (⟨(y 1).val % 256, Nat.mod_lt _ (by decide)⟩ : Fin 256) := by
        apply Fin.ext; show (y 1).val - 256 * q.val = (y 1).val % 256; omega
      exact (congrArg₂ (s.acc q) e0 e2).trans (congrArg (fun q => s.acc q _ _) e1)
  · rw [if_neg h, dif_neg (by intro hh; have := hh 1; simp at this; omega)]

theorem put_halves (r : Vec F S32x512 .f32) (s : Mxu F) (O : Vec F S32x512 .bf16) :
    (fun y => if (y 1).val / 256 = 1 then outV r s y else (fun y => if (y 1).val / 256 = 0 then outV r s y else O y : Vec F S32x512 .bf16) y : Vec F S32x512 .bf16)
      = outV r s := by
  funext y
  have h1 : (y 1).val < 512 := (y 1).isLt
  dsimp only
  split_ifs <;> first | rfl | omega

end Cert.Q4

end
-- ==== Proof.Body.lean ====
/-
  The call's body as a triple over its buffers: the reordered activations are written at the first grid point and read at every
  one; the output is the residual plus the units' sums.
-/
module

public import proofs.«01_k».proof.Proof.Content

@[expose] public section

set_option maxRecDepth 16384

noncomputable section

namespace Cert.Q4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ : Labels} {K : Nat}

local notation "𝕄" => MT nD τ sig Unit (Elt F) ℕ (UR sig nD τ) ℕ

/-! ## The units at the end -/

/-- Only the first `b` rows are live. -/
def Low (b : Nat) (s : Mxu F) : Prop := ∀ q R, s.live q R = true → R.val < b

theorem Low.stepS {b : Nat} {s : Mxu F} (hs : Low b s) (r : Fin 2) (A : Nat) (hA : Mxu.Fits A 32) (hb : 4 * A + 32 ≤ b) (x : Vec F S32x256 .bf16)
    (t : FVec F S256x256 .bf16 × FVec F S256x256 .bf16) : Low b (stepS s r A hA x t) := fun q R h => by
  unfold Q4.stepS fed at h
  rw [Mxu.live_accLhs] at h
  split at h
  · rename_i h'; omega
  rw [Mxu.live_pushed, Mxu.live_accLhs] at h
  split at h
  · rename_i h'; omega
  rw [Mxu.live_pushed] at h
  exact hs _ _ h

theorem Low.runS {X : Vec F (SAct K) .bf16} {C : Vec F (SCode K) .i8} {D : Vec F (SDup K) .f32} :
    (n : Nat) → (hn : n ≤ K) → (s : Mxu F) → Low 32 s → Low 32 (runS X C D n hn s)
  | 0, _, s, hs => hs
  | n + 1, hn, s, hs => Low.runS n _ _ (hs.stepS _ _ _ (by decide) _ _)

/-- Both units popped, nothing is left in them. -/
theorem drained {s : Mxu F} (he : Empty s) (hl : Low 32 s) : ((s.pop 0 0 32 fits).pop 1 0 32 fits).Drained := by
  refine ⟨fun q r => by rw [Mxu.reg_pop, Mxu.reg_pop, he]; rfl, fun q R => ?_⟩
  rw [Mxu.live_pop, Mxu.live_pop]
  split
  · rfl
  split
  · rfl
  rename_i h1 h0
  by_contra hc
  have hR := hl q R (by simpa using hc)
  rcases Fin.exists_fin_two.mp ⟨q, rfl⟩ with h | h
  · exact h0 ⟨h, by omega, by omega⟩
  · exact h1 ⟨h, by omega, by omega⟩

theorem halfV_pop (r : Vec F S32x512 .f32) (s : Mxu F) : halfV r (s.pop 0 0 32 fits) 1 = halfV r s 1 := by
  unfold halfV
  rw [Mxu.read_pop_ne _ _ _ _ _ _ _ (by simp)]

/-! ## The steps -/

/-- The units after all blocks. -/
def sumS (X : Vec F (SAct K) .bf16) (C : Vec F (SCode K) .i8) (S : Vec F (SScale K) .bf16) : Mxu F := runS X C (dupV S) K (Nat.le_refl K) Mxu.init

section Steps
variable {defs : Defs nD τ sig (Elt F) Λ} {𝒱 : Variants} {c : Dev nD} {E : Set ℕ}

section
variable {sc : Memref sig .tc .vmem (SScale K) .bf16} {dup : Memref sig .tc .vmem (SDup K) .f32} {S : Vec F (SScale K) .bf16}

theorem steps_col {R : Vec F (SDup K) .f32 → sProp 𝕄} (hs : ∀ D, Holds c (R D) sc S)
    (hd : ∀ D X, R D ⊢ iprop(owns (c : Thread nD τ) dup fullShare D ∗ (owns (c : Thread nD τ) dup fullShare X -∗ R X)))
    (hK : 0 < K) (D : Vec F (SDup K) .f32) (t : Nat) (ht : t < 4) :
    Steps defs 𝒱 c E (R D) (prepCol hK sc dup t ht) ⟨⟩ (R fun y => if (y 0).val = t then dupV S y else D y) := by
  refine (Reads.load (hs D)).bind <| (Reads.load (hd D D)).bind ?_
  rw [← put_col S D t ht]
  exact Steps.store (hd D _)

/-- The copied scales, in any state that holds the scales and their copy. -/
theorem steps_scales {R : Vec F (SDup K) .f32 → sProp 𝕄} (hs : ∀ D, Holds c (R D) sc S)
    (hd : ∀ D X, R D ⊢ iprop(owns (c : Thread nD τ) dup fullShare D ∗ (owns (c : Thread nD τ) dup fullShare X -∗ R X)))
    (hK : 0 < K) (D : Vec F (SDup K) .f32) : Steps defs 𝒱 c E (R D) (prepScales hK sc dup) ⟨⟩ (R (dupV S)) := by
  rw [← put_cols S D]
  exact (steps_col hs hd hK _ 0 _).bind <| (steps_col hs hd hK _ 1 _).bind <| (steps_col hs hd hK _ 2 _).bind <| steps_col hs hd hK _ 3 _

end

variable (B : Bufs sig K) (V : Vals F K)

theorem steps_copy (hh : B.h.IsWhole) (A X : Vec F (SAct K) .bf16) : (n t : Nat) → (ht : t + n = 2 * K) →
    Steps defs 𝒱 c E (St c B { V with a := A, h := partV t A X }) (copyTiles B.a B.h hh n t (by omega)) ⟨⟩ (St c B { V with a := A, h := reordV A })
  | 0, t, ht => by
    obtain rfl : t = 2 * K := by omega
    rw [partV_all]
    exact Reads.pure _ _
  | n + 1, t, ht => by
    unfold copyTiles putTile
    refine (Reads.load (St.a c B _)).bind ?_
    refine Steps.bind (v := (PUnit.unit : PUnit)) ?_ (steps_copy hh A X n (t + 1) (by omega))
    refine (Reads.load (St.h c B _ _)).bind ?_
    rw [← put_tile t (by omega) A X]
    exact Steps.store (St.h c B { V with a := A, h := partV t A X } _)

theorem steps_put (ho : B.o.IsWhole) (s : Mxu F) (q : Fin 2) :
    Steps defs 𝒱 c E (St c B V) (putOut s q B.r B.o ho) (s.pop q 0 32 fits)
      (St c B { V with o := VecWindow.put V.o ![0, 256 * q.val] S32x256.size (halfV V.r s q) }) := by
  refine (Reads.load (St.r c B V)).bind <| (Reads.load (St.o c B V V.o)).bind <| (Steps.store (St.o c B V _)).bind ?_
  exact Reads.pure _ _

/-- The body after the copy of the activations. -/
theorem steps_proj (hK : 0 < K) (ho : B.o.IsWhole) :
    Steps defs 𝒱 c E (St c B V) (projBody hK B.r B.codes B.sc B.o ho B.h B.dup) ⟨⟩
      (St c B { V with o := outV V.r (sumS V.h V.codes V.sc), dup := dupV V.sc }) := by
  refine (steps_scales (R := fun D => St c B { V with dup := D }) (fun D => St.sc c B _) (fun D X => St.dup c B _ X) hK V.dup).bind <| (reads_blocks B _ K _ _ (fun q r => Mxu.reg_init q r)).bind ?_
  refine (steps_put B _ ho _ 0).bind <| (steps_put B _ ho _ 1).bind ?_
  dsimp only
  rw [halfV_pop, put_half, put_half]
  refine Steps.assume (drained (Empty.runS _ _ _ (fun q r => Mxu.reg_init q r)) (Low.runS _ _ _ (fun q R h => by simp at h))) ?_
  exact Steps.done (PUnit.unit : PUnit) (congrArg (fun X => St c B { V with o := X, dup := dupV V.sc }) (put_halves V.r _ V.o))

/-- The whole body at the first grid point. -/
theorem steps_first (hK : 0 < K) (hh : B.h.IsWhole) (ho : B.o.IsWhole) :
    Steps defs 𝒱 c E (St c B V) (copyTiles B.a B.h hh (2 * K) 0 (by omega) >>= fun _ => projBody hK B.r B.codes B.sc B.o ho B.h B.dup) ⟨⟩
      (St c B { V with h := reordV V.a, o := outV V.r (sumS (reordV V.a) V.codes V.sc), dup := dupV V.sc }) := by
  have h := steps_copy (defs := defs) (𝒱 := 𝒱) (c := c) (E := E) B V hh V.a V.h (2 * K) 0 (by omega)
  rw [partV_zero] at h
  exact h.bind (steps_proj B _ hK ho)

end Steps

end Cert.Q4

end
-- ==== Proof.BridgeKernel.lean ====
/-
  The printed body of the call, over its parts, is the program of Block.lean and Feed.lean.
-/
module

public import proofs.«01_k».proof.Proof.Body
public import proofs.«01_k».proof.Proof.Gen.Kernel
@[expose] public section
set_option maxRecDepth 65536
set_option maxHeartbeats 0
noncomputable section
namespace Cert.Kernel.Bridge
open Cert.Kernel Cert.Kernel.Gen
open Idealize.ShloMosaic Idealize.ShloMosaic.TcCoe
open Idealize.SL.Sem
variable {F : FTy → Type} [FloatOps F]
variable (i : grid0.Coords) (arg1 : Memref sig .tc .vmem S32x10240 .bf16) (harg1 : arg1.IsWhole) (arg2 : Memref sig .tc .vmem S32x512 .f32) (harg2 : arg2.IsWhole) (arg3 : Memref sig .tc .vmem S640x32x128 .i8) (harg3 : arg3.IsWhole) (arg4 : Memref sig .tc .vmem S320x512 .bf16) (harg4 : arg4.IsWhole) (arg5 : Memref sig .tc .vmem S32x512 .bf16) (harg5 : arg5.IsWhole) (arg6 : Memref sig .tc .vmem S32x10240 .bf16) (harg6 : arg6.IsWhole) (arg7 : Memref sig .tc .vmem S4x320x128 .f32) (harg7 : arg7.IsWhole)

/-- Is this the first point of the grid? As the body asks it. -/
abbrev First : Prop := Scalar.cmpi .ne (Scalar.extui (Scalar.cmpi .eq (BitVec.ofNat 32 (i 0).val) 0#32) : BitVec 32) 0#32 = 1#1

theorem first_pos (hc : First i) : (k0_part53 i arg1 harg1 arg2 harg2 arg3 harg3 arg4 harg4 arg5 harg5 arg6 harg6 arg7 harg7 : Prog (TpuEff nD τ sig (Elt F) Λ₀ .tc) _)
  = (do
  Q4.copyTiles (K := 40) arg1 arg6 harg6 (2 * 40) 0 (by omega)
  Q4.prepScales (K := 40) (by decide) arg4 arg7
  let x ← Q4.act (K := 40) arg6 0 (by omega)
  pure ⟨Mxu.init, x, iota .tc S8x8x128 32 [1] (by decide)⟩) := by
  unfold k0_part53; exact (dif_pos hc).trans rfl

theorem first_neg (hc : ¬ First i) : (k0_part53 i arg1 harg1 arg2 harg2 arg3 harg3 arg4 harg4 arg5 harg5 arg6 harg6 arg7 harg7 : Prog (TpuEff nD τ sig (Elt F) Λ₀ .tc) _)
  = (do
  Q4.prepScales (K := 40) (by decide) arg4 arg7
  let x ← Q4.act (K := 40) arg6 0 (by omega)
  pure ⟨Mxu.init, x, iota .tc S8x8x128 32 [1] (by decide)⟩) := by
  unfold k0_part53; exact (dif_neg hc).trans rfl

theorem after {α : Type} {P k k' : Prog (TpuEff nD τ sig (Elt F) Λ₀ .tc) α} {pre : Prog (TpuEff nD τ sig (Elt F) Λ₀ .tc) PUnit}
    (h : (pre >>= fun _ => k) = P) (hk : k = k') : P = (pre >>= fun _ => k') := hk ▸ h.symm

theorem body_neg (hc : ¬ First i) :
    (cc0_down i arg1 harg1 arg2 harg2 arg3 harg3 arg4 harg4 arg5 harg5 arg6 harg6 arg7 harg7 : Prog (TpuEff nD τ sig (Elt F) Λ₀ .tc) PUnit)
      = Q4.projBody (K := 40) (by decide) arg2 arg3 arg4 arg5 harg5 arg6 arg7 := by
  unfold cc0_down k0_part462 Q4.projBody
  rw [first_neg _ _ _ _ _ _ _ _ _ _ _ _ _ _ _ hc]
  refine after rfl ?_
  iterate 40
    (refine Q4.block_congr (F := F) (K := 40) arg6 arg3 arg7 rfl rfl ?_
     intros
     rename_i s' hs
     generalize hE : Mxu.pushed (F := F) (φ := .bf16) _ 1 _ _ _ = t
     obtain rfl : t = s' := hE.symm.trans hs
     clear hE hs)
  rfl

theorem body_pos (hc : First i) :
    (cc0_down i arg1 harg1 arg2 harg2 arg3 harg3 arg4 harg4 arg5 harg5 arg6 harg6 arg7 harg7 : Prog (TpuEff nD τ sig (Elt F) Λ₀ .tc) PUnit)
      = (Q4.copyTiles (K := 40) arg1 arg6 harg6 (2 * 40) 0 (by omega) >>= fun _ =>
          Q4.projBody (K := 40) (by decide) arg2 arg3 arg4 arg5 harg5 arg6 arg7) := by
  unfold cc0_down k0_part462 Q4.projBody
  rw [first_pos _ _ _ _ _ _ _ _ _ _ _ _ _ _ _ hc]
  refine after rfl ?_
  refine after rfl ?_
  iterate 40
    (refine Q4.block_congr (F := F) (K := 40) arg6 arg3 arg7 rfl rfl ?_
     intros
     rename_i s' hs
     generalize hE : Mxu.pushed (F := F) (φ := .bf16) _ 1 _ _ _ = t
     obtain rfl : t = s' := hE.symm.trans hs
     clear hE hs)
  rfl

end Cert.Kernel.Bridge

end
-- ==== Proof.FrameKernel.lean ====
/-
  The run of the program: what each grid point leaves in its windows, the invariant its scratch buffers keep (after the first
  point the reordered activations), the body's obligation, the launch, and the frame.
-/
module

public import proofs.«01_k».proof.Proof.BridgeKernel
public import proofs.«01_k».proof.Proof.Gen.Kernel.Frame

@[expose] public section

set_option maxRecDepth 16384

noncomputable section

namespace Cert.Kernel.Run

open Cert.Kernel Cert.Kernel.Gen Cert.Kernel.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations, whole at every grid point. -/
abbrev actA (c : Dev nD) : Vec F (Q4.SAct 40) .bf16 := iblk m c 0 t0_0

theorem iblk0 (c : Dev nD) (t : Fin cfg0.N) : iblk m c 0 t = actA m c := rfl

/-- The output's block at point `t`. -/
def outB (c : Dev nD) (t : Fin cfg0.N) : Vec F Q4.S32x512 .bf16 :=
  Q4.outV (iblk m c 1 t : Vec F Q4.S32x512 .f32)
    (Q4.sumS (K := 40) (Q4.reordV (actA m c)) (iblk m c 2 t : Vec F (Q4.SCode 40) .i8) (iblk m c 3 t : Vec F (Q4.SScale 40) .bf16))

/-- What the scratch buffers hold before point `t`. -/
def Track (c : Dev nD) (t : Nat) : sProp 𝕄 :=
  iprop((∃ X : Vec F (Q4.SAct 40) .bf16, ⌜t ≠ 0 → X = Q4.reordV (actA m c)⌝ ∗ owns (c : Thread nD τ) (Memref.whole cc0_scratch0) fullShare X)
    ∗ (∃ D : Vec F (Q4.SDup 40) .f32, owns (c : Thread nD τ) (Memref.whole cc0_scratch1) fullShare D)
    ∗ ∃ r, prngReg c r)

theorem track_in (c : Dev nD) : (Pipeline.ΦA spec0 c : sProp 𝕄) ⊢ Track m c 0 := by
  unfold Pipeline.ΦA Track
  rw [scopedRest0_eq]
  iintro ⟨⟨⟨%f, H0⟩, ⟨%g, H1⟩⟩, Hr⟩
  isplitl [H0]
  · iexists f; isplitr
    · ipureintro; intro h; exact absurd rfl h
    · rw [owns_whole]; iexact H0
  isplitl [H1]
  · iexists g; rw [owns_whole]; iexact H1
  iexact Hr

theorem track_out (c : Dev nD) (t : Nat) : Track m c t ⊢ (Pipeline.ΦA spec0 c : sProp 𝕄) := by
  unfold Pipeline.ΦA Track
  rw [scopedRest0_eq]
  simp only [owns_whole]
  iintro ⟨⟨%f, %hf, H0⟩, ⟨%g, H1⟩, Hr⟩
  isplitr [Hr]
  · isplitl [H0]
    · iexists f; iexact H0
    · iexists g; iexact H1
  iexact Hr

/-- The proof data: each input's buffer at its block after every point, the output's at `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t
  Φ t := Track m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The call's buffers at point `t`. -/
abbrev bufs (t : Fin cfg0.N) : Q4.Bufs sig 40 :=
  ⟨st0_0 t, st0_1 t, st0_2 t, st0_3 t, st0_4 t, Memref.whole cc0_scratch0, Memref.whole cc0_scratch1⟩

/-- The first point is the one the body asks for. -/
theorem first_iff : ∀ t : Fin grid0.N, First (grid0.coords t) ↔ t.val = 0 := by decide

/-- The body at any point leaves the state the proof data say. -/
theorem steps_body (c : Dev nD) (t : Fin cfg0.N) (O : Vec F Q4.S32x512 .bf16) (X : Vec F (Q4.SAct 40) .bf16) (D : Vec F (Q4.SDup 40) .f32)
    (hX : t.val ≠ 0 → X = Q4.reordV (actA m c)) :
    Q4.Steps (defs₀ (F := F)) Variants.none c Set.univ
      (Q4.St c (bufs t) ⟨actA m c, iblk m c 1 t, iblk m c 2 t, iblk m c 3 t, O, X, D⟩) (bodyAt0 t) ⟨⟩
      (Q4.St c (bufs t) ⟨actA m c, iblk m c 1 t, iblk m c 2 t, iblk m c 3 t, outB m c t, Q4.reordV (actA m c), Q4.dupV (iblk m c 3 t : Vec F (Q4.SScale 40) .bf16)⟩) := by
  by_cases h : t.val = 0
  · rw [show bodyAt0 (F := F) t = _ from body_pos _ _ _ _ _ _ _ _ _ _ _ _ _ _ _ ((first_iff t).mpr h)]
    exact Q4.steps_first (bufs t) ⟨actA m c, iblk m c 1 t, iblk m c 2 t, iblk m c 3 t, O, X, D⟩ (by decide) _ _
  · rw [show bodyAt0 (F := F) t = _ from body_neg _ _ _ _ _ _ _ _ _ _ _ _ _ _ _ (fun hc => h ((first_iff t).mp hc))]
    rw [hX h]
    exact Q4.steps_proj (bufs t) ⟨actA m c, iblk m c 1 t, iblk m c 2 t, iblk m c 3 t, O, Q4.reordV (actA m c), D⟩ (by decide) _

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl,
    show (dats m 0 c).Φ t.succ = Track m c (t.val + 1) from rfl, show (dats m 0 c).Φ t.castSucc = Track m c t.val from rfl,
    after0_0, after0_1, after0_2, after0_3, after0_4]
  unfold Track
  iintro ⟨⟨⟨%X, %hX, HX⟩, ⟨%D, HD⟩, Hr⟩, Ho, ⟨%d0, H0⟩, ⟨%d1, H1⟩, ⟨%d2, H2⟩, ⟨%d3, H3⟩, ⟨%d4, H4⟩⟩
  iapply (steps_body m c t ((dats m 0 c).before 4 t d4) X D hX _)
  unfold Q4.St
  isplitl [HX HD H0 H1 H2 H3 H4]
  · isplitl [H0]; · iexact H0
    isplitl [H1]; · iexact H1
    isplitl [H2]; · iexact H2
    isplitl [H3]; · iexact H3
    isplitl [H4]; · iexact H4
    isplitl [HX]; · iexact HX
    iexact HD
  iintro ⟨H0, H1, H2, H3, H4, HX, HD⟩
  isplitl [HX HD Hr]
  · isplitl [HX]
    · iexists (Q4.reordV (actA m c)); isplitr; · ipureintro; intro _; rfl
      iexact HX
    isplitl [HD]; · iexists _; iexact HD
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every fair execution terminates, the arrays at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in m c) (hout := fun c => track_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: every fair execution terminates and the argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.BridgeIdeal.lean ====
/-
  The printed body of the call, over its parts, is the program of Block.lean and Feed.lean.
-/
module

public import proofs.«01_k».proof.Proof.Body
public import proofs.«01_k».proof.Proof.Gen.KernelIdeal
@[expose] public section
set_option maxRecDepth 65536
set_option maxHeartbeats 0
noncomputable section
namespace Cert.KernelIdeal.Bridge
open Cert.KernelIdeal Cert.KernelIdeal.Gen
open Idealize.ShloMosaic Idealize.ShloMosaic.TcCoe
open Idealize.SL.Sem
variable {F : FTy → Type} [FloatOps F]
variable (i : grid0.Coords) (arg1 : Memref sig .tc .vmem S32x10240 .bf16) (harg1 : arg1.IsWhole) (arg2 : Memref sig .tc .vmem S32x512 .f32) (harg2 : arg2.IsWhole) (arg3 : Memref sig .tc .vmem S640x32x128 .i8) (harg3 : arg3.IsWhole) (arg4 : Memref sig .tc .vmem S320x512 .bf16) (harg4 : arg4.IsWhole) (arg5 : Memref sig .tc .vmem S32x512 .bf16) (harg5 : arg5.IsWhole) (arg6 : Memref sig .tc .vmem S32x10240 .bf16) (harg6 : arg6.IsWhole) (arg7 : Memref sig .tc .vmem S4x320x128 .f32) (harg7 : arg7.IsWhole)

/-- Is this the first point of the grid? As the body asks it. -/
abbrev First : Prop := Scalar.cmpi .ne (Scalar.extui (Scalar.cmpi .eq (BitVec.ofNat 32 (i 0).val) 0#32) : BitVec 32) 0#32 = 1#1

theorem first_pos (hc : First i) : (k0_part53 i arg1 harg1 arg2 harg2 arg3 harg3 arg4 harg4 arg5 harg5 arg6 harg6 arg7 harg7 : Prog (TpuEff nD τ sig (Elt F) Λ₀ .tc) _)
  = (do
  Q4.copyTiles (K := 40) arg1 arg6 harg6 (2 * 40) 0 (by omega)
  Q4.prepScales (K := 40) (by decide) arg4 arg7
  let x ← Q4.act (K := 40) arg6 0 (by omega)
  pure ⟨Mxu.init, x, iota .tc S8x8x128 32 [1] (by decide)⟩) := by
  unfold k0_part53; exact (dif_pos hc).trans rfl

theorem first_neg (hc : ¬ First i) : (k0_part53 i arg1 harg1 arg2 harg2 arg3 harg3 arg4 harg4 arg5 harg5 arg6 harg6 arg7 harg7 : Prog (TpuEff nD τ sig (Elt F) Λ₀ .tc) _)
  = (do
  Q4.prepScales (K := 40) (by decide) arg4 arg7
  let x ← Q4.act (K := 40) arg6 0 (by omega)
  pure ⟨Mxu.init, x, iota .tc S8x8x128 32 [1] (by decide)⟩) := by
  unfold k0_part53; exact (dif_neg hc).trans rfl

theorem after {α : Type} {P k k' : Prog (TpuEff nD τ sig (Elt F) Λ₀ .tc) α} {pre : Prog (TpuEff nD τ sig (Elt F) Λ₀ .tc) PUnit}
    (h : (pre >>= fun _ => k) = P) (hk : k = k') : P = (pre >>= fun _ => k') := hk ▸ h.symm

theorem body_neg (hc : ¬ First i) :
    (cc0_down i arg1 harg1 arg2 harg2 arg3 harg3 arg4 harg4 arg5 harg5 arg6 harg6 arg7 harg7 : Prog (TpuEff nD τ sig (Elt F) Λ₀ .tc) PUnit)
      = Q4.projBody (K := 40) (by decide) arg2 arg3 arg4 arg5 harg5 arg6 arg7 := by
  unfold cc0_down k0_part462 Q4.projBody
  rw [first_neg _ _ _ _ _ _ _ _ _ _ _ _ _ _ _ hc]
  refine after rfl ?_
  iterate 40
    (refine Q4.block_congr (F := F) (K := 40) arg6 arg3 arg7 rfl rfl ?_
     intros
     rename_i s' hs
     generalize hE : Mxu.pushed (F := F) (φ := .bf16) _ 1 _ _ _ = t
     obtain rfl : t = s' := hE.symm.trans hs
     clear hE hs)
  rfl

theorem body_pos (hc : First i) :
    (cc0_down i arg1 harg1 arg2 harg2 arg3 harg3 arg4 harg4 arg5 harg5 arg6 harg6 arg7 harg7 : Prog (TpuEff nD τ sig (Elt F) Λ₀ .tc) PUnit)
      = (Q4.copyTiles (K := 40) arg1 arg6 harg6 (2 * 40) 0 (by omega) >>= fun _ =>
          Q4.projBody (K := 40) (by decide) arg2 arg3 arg4 arg5 harg5 arg6 arg7) := by
  unfold cc0_down k0_part462 Q4.projBody
  rw [first_pos _ _ _ _ _ _ _ _ _ _ _ _ _ _ _ hc]
  refine after rfl ?_
  refine after rfl ?_
  iterate 40
    (refine Q4.block_congr (F := F) (K := 40) arg6 arg3 arg7 rfl rfl ?_
     intros
     rename_i s' hs
     generalize hE : Mxu.pushed (F := F) (φ := .bf16) _ 1 _ _ _ = t
     obtain rfl : t = s' := hE.symm.trans hs
     clear hE hs)
  rfl

end Cert.KernelIdeal.Bridge

end
-- ==== Proof.FrameIdeal.lean ====
/-
  The run of the program: what each grid point leaves in its windows, the invariant its scratch buffers keep (after the first
  point the reordered activations), the body's obligation, the launch, and the frame.
-/
module

public import proofs.«01_k».proof.Proof.BridgeIdeal
public import proofs.«01_k».proof.Proof.Gen.KernelIdeal.Frame

@[expose] public section

set_option maxRecDepth 16384

noncomputable section

namespace Cert.KernelIdeal.Run

open Cert.KernelIdeal Cert.KernelIdeal.Gen Cert.KernelIdeal.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations, whole at every grid point. -/
abbrev actA (c : Dev nD) : Vec F (Q4.SAct 40) .bf16 := iblk m c 0 t0_0

theorem iblk0 (c : Dev nD) (t : Fin cfg0.N) : iblk m c 0 t = actA m c := rfl

/-- The output's block at point `t`. -/
def outB (c : Dev nD) (t : Fin cfg0.N) : Vec F Q4.S32x512 .bf16 :=
  Q4.outV (iblk m c 1 t : Vec F Q4.S32x512 .f32)
    (Q4.sumS (K := 40) (Q4.reordV (actA m c)) (iblk m c 2 t : Vec F (Q4.SCode 40) .i8) (iblk m c 3 t : Vec F (Q4.SScale 40) .bf16))

/-- What the scratch buffers hold before point `t`. -/
def Track (c : Dev nD) (t : Nat) : sProp 𝕄 :=
  iprop((∃ X : Vec F (Q4.SAct 40) .bf16, ⌜t ≠ 0 → X = Q4.reordV (actA m c)⌝ ∗ owns (c : Thread nD τ) (Memref.whole cc0_scratch0) fullShare X)
    ∗ (∃ D : Vec F (Q4.SDup 40) .f32, owns (c : Thread nD τ) (Memref.whole cc0_scratch1) fullShare D)
    ∗ ∃ r, prngReg c r)

theorem track_in (c : Dev nD) : (Pipeline.ΦA spec0 c : sProp 𝕄) ⊢ Track m c 0 := by
  unfold Pipeline.ΦA Track
  rw [scopedRest0_eq]
  iintro ⟨⟨⟨%f, H0⟩, ⟨%g, H1⟩⟩, Hr⟩
  isplitl [H0]
  · iexists f; isplitr
    · ipureintro; intro h; exact absurd rfl h
    · rw [owns_whole]; iexact H0
  isplitl [H1]
  · iexists g; rw [owns_whole]; iexact H1
  iexact Hr

theorem track_out (c : Dev nD) (t : Nat) : Track m c t ⊢ (Pipeline.ΦA spec0 c : sProp 𝕄) := by
  unfold Pipeline.ΦA Track
  rw [scopedRest0_eq]
  simp only [owns_whole]
  iintro ⟨⟨%f, %hf, H0⟩, ⟨%g, H1⟩, Hr⟩
  isplitr [Hr]
  · isplitl [H0]
    · iexists f; iexact H0
    · iexists g; iexact H1
  iexact Hr

/-- The proof data: each input's buffer at its block after every point, the output's at `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t
  Φ t := Track m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The call's buffers at point `t`. -/
abbrev bufs (t : Fin cfg0.N) : Q4.Bufs sig 40 :=
  ⟨st0_0 t, st0_1 t, st0_2 t, st0_3 t, st0_4 t, Memref.whole cc0_scratch0, Memref.whole cc0_scratch1⟩

/-- The first point is the one the body asks for. -/
theorem first_iff : ∀ t : Fin grid0.N, First (grid0.coords t) ↔ t.val = 0 := by decide

/-- The body at any point leaves the state the proof data say. -/
theorem steps_body (c : Dev nD) (t : Fin cfg0.N) (O : Vec F Q4.S32x512 .bf16) (X : Vec F (Q4.SAct 40) .bf16) (D : Vec F (Q4.SDup 40) .f32)
    (hX : t.val ≠ 0 → X = Q4.reordV (actA m c)) :
    Q4.Steps (defs₀ (F := F)) Variants.none c Set.univ
      (Q4.St c (bufs t) ⟨actA m c, iblk m c 1 t, iblk m c 2 t, iblk m c 3 t, O, X, D⟩) (bodyAt0 t) ⟨⟩
      (Q4.St c (bufs t) ⟨actA m c, iblk m c 1 t, iblk m c 2 t, iblk m c 3 t, outB m c t, Q4.reordV (actA m c), Q4.dupV (iblk m c 3 t : Vec F (Q4.SScale 40) .bf16)⟩) := by
  by_cases h : t.val = 0
  · rw [show bodyAt0 (F := F) t = _ from body_pos _ _ _ _ _ _ _ _ _ _ _ _ _ _ _ ((first_iff t).mpr h)]
    exact Q4.steps_first (bufs t) ⟨actA m c, iblk m c 1 t, iblk m c 2 t, iblk m c 3 t, O, X, D⟩ (by decide) _ _
  · rw [show bodyAt0 (F := F) t = _ from body_neg _ _ _ _ _ _ _ _ _ _ _ _ _ _ _ (fun hc => h ((first_iff t).mp hc))]
    rw [hX h]
    exact Q4.steps_proj (bufs t) ⟨actA m c, iblk m c 1 t, iblk m c 2 t, iblk m c 3 t, O, Q4.reordV (actA m c), D⟩ (by decide) _

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl,
    show (dats m 0 c).Φ t.succ = Track m c (t.val + 1) from rfl, show (dats m 0 c).Φ t.castSucc = Track m c t.val from rfl,
    after0_0, after0_1, after0_2, after0_3, after0_4]
  unfold Track
  iintro ⟨⟨⟨%X, %hX, HX⟩, ⟨%D, HD⟩, Hr⟩, Ho, ⟨%d0, H0⟩, ⟨%d1, H1⟩, ⟨%d2, H2⟩, ⟨%d3, H3⟩, ⟨%d4, H4⟩⟩
  iapply (steps_body m c t ((dats m 0 c).before 4 t d4) X D hX _)
  unfold Q4.St
  isplitl [HX HD H0 H1 H2 H3 H4]
  · isplitl [H0]; · iexact H0
    isplitl [H1]; · iexact H1
    isplitl [H2]; · iexact H2
    isplitl [H3]; · iexact H3
    isplitl [H4]; · iexact H4
    isplitl [HX]; · iexact HX
    iexact HD
  iintro ⟨H0, H1, H2, H3, H4, HX, HD⟩
  isplitl [HX HD Hr]
  · isplitl [HX]
    · iexists (Q4.reordV (actA m c)); isplitr; · ipureintro; intro _; rfl
      iexact HX
    isplitl [HD]; · iexists _; iexact HD
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every fair execution terminates, the arrays at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in m c) (hout := fun c => track_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: every fair execution terminates and the argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Weights.lean ====
/-
  The dequantised tiles at an element, over the extended reals: a signed nibble of a code times its group's scale.
-/
module

public import proofs.«01_k».proof.Proof.Content
public import Idealize.ShloMosaic.Lib.BitcastFour
public import Idealize.ShloMosaic.Lib.Pointwise

@[expose] public section

set_option maxRecDepth 16384

noncomputable section

namespace Cert.Q4

open Idealize.ShloMosaic

/-! ## Nibbles -/

/-- The weight that nibble `h` (0 low, 1 high) of a code stands for: itself less eight. -/
def nib (b : BitVec 8) (h : Nat) : EReal := (((b.toNat / 16 ^ h % 16 : Nat) : ℝ) : EReal) - ((8 : ℝ) : EReal)

/-- A four-bit number with its top bit inverted, read signed, is the number less eight. -/
theorem toInt_flip : ∀ y : BitVec 4, (y ^^^ 8#4).toInt = (y.toNat : Int) - 8 := by decide

/-- Bit `4n + i` of the mask of top bits is set at `i = 3` alone. -/
theorem mask_bit : ∀ n : Fin 8, ∀ i : Fin 4, (2290649224#32 : BitVec 32).getLsbD (4 * n.val + i.val) = (8#4 : BitVec 4).getLsbD i.val := by decide

/-- Nibble `n` of a word with its top bit inverted, brought to the top and shifted down with its sign. -/
theorem shift_nibble (w : BitVec 32) (n : Nat) (hn : n < 8) :
    (((w ^^^ 2290649224#32) <<< (28 - 4 * n)).sshiftRight 28) = ((w.extractLsb' (4 * n) 4) ^^^ 8#4).signExtend 32 := by
  apply BitVec.eq_of_getLsbD_eq
  intro i hi
  have key : ∀ j, j < 4 → ((w ^^^ 2290649224#32) <<< (28 - 4 * n)).getLsbD (28 + j) = ((w.extractLsb' (4 * n) 4) ^^^ 8#4).getLsbD j := by
    intro j hj
    have hm := mask_bit ⟨n, hn⟩ ⟨j, hj⟩
    dsimp only at hm
    rw [BitVec.getLsbD_shiftLeft, BitVec.getLsbD_xor, BitVec.getLsbD_xor, BitVec.getLsbD_extractLsb',
      show 28 + j - (28 - 4 * n) = 4 * n + j by omega, hm]
    simp only [show 28 + j < 32 by omega, show ¬ 28 + j < 28 - 4 * n by omega, hj, decide_true, decide_false, Bool.not_false, Bool.true_and]
  rw [BitVec.getLsbD_sshiftRight, BitVec.getLsbD_signExtend]
  simp only [hi, decide_true, Bool.true_and, show ¬ 32 ≤ i by omega, decide_false, Bool.not_false]
  by_cases h4 : i < 4
  · rw [if_pos (by omega), if_pos h4, key i h4]
  · rw [if_neg (by omega), if_neg h4, BitVec.msb_eq_getLsbD_last, BitVec.msb_eq_getLsbD_last]
    exact key 3 (by decide)

/-- Its value is the nibble less eight. -/
theorem toInt_nibble (w : BitVec 32) (n : Nat) (hn : n < 8) :
    (((w ^^^ 2290649224#32) <<< (28 - 4 * n)).sshiftRight 28).toInt = ((w.extractLsb' (4 * n) 4).toNat : Int) - 8 := by
  rw [shift_nibble w n hn, BitVec.toInt_signExtend_of_le (by decide), toInt_flip]

/-- A nibble of a byte as a number. -/
theorem toNat_nibble (b : BitVec 8) (h : Nat) : (b.extractLsb' (4 * h) 4).toNat = b.toNat / 16 ^ h % 16 := by
  rw [BitVec.extractLsb'_toNat, Nat.shiftRight_eq_div_pow, show 2 ^ (4 * h) = 16 ^ h by rw [Nat.pow_mul]]

/-! ## The unpacked rows -/

/-- The amount that nibble `n` is shifted up by. -/
theorem amount : ∀ n : Fin 8, IntOp.subi (28#32) (IntOp.muli (4#32) (BitVec.ofNat 32 n.val)) = BitVec.ofNat 32 (28 - 4 * n.val) := by decide

/-- The shifts of the unpacking, inside their range. -/
theorem shifts (x : BitVec 32) (n : Nat) (hn : n < 8) :
    IntOp.shrsi ArithUnit.vector (IntOp.shli ArithUnit.vector x (BitVec.ofNat 32 (28 - 4 * n))) 28#32 = (x <<< (28 - 4 * n)).sshiftRight 28 := by
  have h : (BitVec.ofNat 32 (28 - 4 * n)).toNat = 28 - 4 * n := by
    rw [BitVec.toNat_ofNat, Nat.mod_eq_of_lt (by omega)]
  unfold IntOp.shrsi IntOp.shli
  rw [if_pos (by decide), if_pos (by rw [h]; omega), BitVec.shiftLeft_eq', h]
  rfl

/-- Nibble `n` of a word of four packed rows is nibble `n % 2` of the row `n / 2` from the word's first. -/
theorem word_nibble (v : (⟨2, ![32, 128]⟩ : Shape).Idx → BitVec 8) (hb : (⟨2, ![32, 128]⟩ : Shape).Bitcasts 8 ⟨2, ![8, 128]⟩ 32)
    (a : Fin 8) (l : Fin 128) (n : Nat) (hn : n < 8) (p : Fin 32) (hp : p.val = 4 * a.val + n / 2) :
    (bitcast ⟨2, ![8, 128]⟩ 32 v hb (ValueIdx.ix2 a l)).extractLsb' (4 * n) 4 = (v (ValueIdx.ix2 p l)).extractLsb' (4 * (n % 2)) 4 := by
  apply BitVec.eq_of_getLsbD_eq
  intro i hi
  rw [BitVec.getLsbD_extractLsb', BitVec.getLsbD_extractLsb', bitcast_8_32_getLsbD_ix2 v hb a l (4 * n + i) (by omega) p (by omega),
    show (4 * n + i) % 8 = 4 * (n % 2) + i by omega]

/-- The unpacked rows: row `r` is nibble `r % 2` of the packed row `r / 2`. -/
theorem unpack_apply (w : Vec Ideal S1x32x128 .i8) (r : Fin 64) (l : Fin 128) :
    unpack w (ix2 r l) = nib (w (ix3 0 ⟨r.val / 2, by omega⟩ l)) (r.val % 2) := by
  unfold unpack nibble
  pointwise
  have e := amount ⟨r.val % 8, by omega⟩
  dsimp only at e
  have hw := word_nibble (shapeCast S32x128 w (by decide)) (by decide) ⟨r.val / 8, by omega⟩ l (r.val % 8) (by omega) ⟨r.val / 2, by omega⟩
    (by dsimp only; omega)
  rw [e, shifts _ _ (by omega)]
  have ht := toInt_nibble (bitcast S8x128 32 (shapeCast S32x128 w (by decide)) (by decide) (ix2 ⟨r.val / 8, by omega⟩ l)) (r.val % 8) (by omega)
  have hs : (shapeCast S32x128 w (by decide) : Vec Ideal S32x128 .i8) (ix2 ⟨r.val / 2, by omega⟩ l) = w (ix3 0 ⟨r.val / 2, by omega⟩ l) := by pointwise
  have hx : (bitcast S8x128 32 (shapeCast S32x128 w (by decide)) (by decide) (ix2 ⟨r.val / 8, by omega⟩ l)).extractLsb' (4 * (r.val % 8)) 4
      = (w (ix3 0 ⟨r.val / 2, by omega⟩ l)).extractLsb' (4 * (r.val % 2)) 4 := by
    rw [← hs, show r.val % 2 = r.val % 8 % 2 by omega]
    exact hw
  rw [hx, toNat_nibble] at ht
  change (((BitVec.toInt _ : ℤ) : ℝ) : EReal) = _
  unfold IntOp.xori
  rw [ht, nib, ← EReal.coe_sub]
  push_cast
  rfl

end Cert.Q4

end
-- ==== Proof.Sum.lean ====
/-
  What the matrix units hold after the blocks, over the extended reals: at each element the sum over the blocks of the products of
  activations and tiles.
-/
module

public import proofs.«01_k».proof.Proof.Body
public import Idealize.ShloMosaic.Lib.Mxu.Lemmas
public import Idealize.ShloMosaic.Lib.MatmulPlain
public import Idealize.ShloMosaic.Init

@[expose] public section

noncomputable section

namespace Cert.Q4

open Idealize.ShloMosaic Idealize.ShloMosaic.ValueIdx

variable {K : Nat}

/-- A pass at an element is the sum over the 256 rows of the tile. -/
theorem pass_apply (x : FVec Ideal S32x256 .bf16) (t : FVec Ideal S256x256 .bf16) (r : Fin 32) (c : Fin 256) :
    (⟨.bf16, false, t⟩ : Mxu.Staged Ideal).pass x (ix2 r c) = (∑ k : Fin 256, x (ix2 r k) * t (ix2 k c) : EReal) := by
  have h := Ideal.matmul_plain_apply (M := 32) (K := 256) (N := 256) none x t (fun _ => (0 : EReal)) r c
  rw [zero_add] at h
  refine Eq.trans ?_ h
  rw [Mxu.Staged.pass_false, Ideal.mxuPass_def, Ideal.matmul_apply]
  exact (zero_add _).symm

/-- What unit `q` holds from address `A` on, at a row and column: nothing while the row is not live. -/
def held (s : Mxu Ideal) (q : Fin 2) (A : Nat) (hA : Mxu.Fits A 32) (r : Fin 32) (c : Fin 256) : EReal :=
  if s.live q (Mxu.row hA r) = true then s.read q A hA (ix2 r c) else 0

theorem deposit_held (b : Bool) (e x : Ideal .f32) : Mxu.deposit b e x = ((if b = true then (e : EReal) else 0) + x : EReal) := by
  cases b
  · exact (zero_add _).symm
  · rfl

/-- An accumulate adds its pass. -/
theorem held_accLhs (s : Mxu Ideal) (q r : Fin 2) (A : Nat) (hA : Mxu.Fits A 32) (x : FVec Ideal S32x256 .bf16) (i : Fin 32) (c : Fin 256) :
    held (s.accLhs q r A x hA) q A hA i c = held s q A hA i c + (s.staged q r).pass x (ix2 i c) := by
  unfold held
  rw [Mxu.live_accLhs_row, if_pos rfl, Mxu.read_accLhs]
  exact deposit_held _ _ _

/-- … to its own unit's rows alone. -/
theorem held_accLhs_ne (s : Mxu Ideal) (q q' r : Fin 2) (A : Nat) (hA : Mxu.Fits A 32) (A' : Nat) (hA' : Mxu.Fits A' 32)
    (hq : q' ≠ q ∨ 4 * A' + 32 ≤ 4 * A ∨ 4 * A + 32 ≤ 4 * A') (x : FVec Ideal S32x256 .bf16) (i : Fin 32) (c : Fin 256) :
    held (s.accLhs q r A x hA) q' A' hA' i c = held s q' A' hA' i c := by
  unfold held
  have e := Mxu.read_accLhs_ne s q r A x hA q' A' hA' hq
  have hi := i.isLt
  rw [Mxu.live_accLhs, e, if_neg (c := q' = q ∧ _) fun h => by
    have h2 := h.2
    dsimp only [Mxu.row] at h2
    rcases hq with hq | hq
    · exact hq h.1
    · omega]

theorem held_pushed (s : Mxu Ideal) (q r q' : Fin 2) (t : FVec Ideal S256x256 .bf16) (A : Nat) (hA : Mxu.Fits A 32) (i : Fin 32) (c : Fin 256) :
    held (s.pushed q r false t) q' A hA i c = held s q' A hA i c := by
  unfold held
  rw [Mxu.live_pushed, Mxu.read_pushed]

/-- The tile unit `q` is fed. -/
def pick (t : FVec Ideal S256x256 .bf16 × FVec Ideal S256x256 .bf16) (q : Fin 2) : FVec Ideal S256x256 .bf16 := if q = 0 then t.1 else t.2

/-- A block adds its products to each unit. -/
theorem held_stepS (s : Mxu Ideal) (hs : Empty s) (r : Fin 2) (A : Nat) (hA : Mxu.Fits A 32) (x : FVec Ideal S32x256 .bf16)
    (t : FVec Ideal S256x256 .bf16 × FVec Ideal S256x256 .bf16) (q : Fin 2) (i : Fin 32) (c : Fin 256) :
    held (stepS s r A hA x t) q A hA i c = held s q A hA i c + (∑ k : Fin 256, x (ix2 i k) * pick t q (ix2 k c) : EReal) := by
  have h0 : (s.pushed 0 r false t.1).staged 0 r = ⟨.bf16, false, t.1⟩ := by
    rw [Mxu.staged_eq, Mxu.reg_pushed_of_none _ _ _ _ _ (hs 0 r)]; rfl
  have h1 : (fed s r A hA x t.1 t.2).staged 1 r = ⟨.bf16, false, t.2⟩ := by
    unfold fed
    rw [Mxu.staged_eq, Mxu.reg_pushed_of_none]
    · rfl
    · rw [Mxu.reg_accLhs_ne _ _ _ _ _ _ _ _ (by simp), Mxu.reg_pushed_ne _ _ _ _ _ _ _ (by simp)]
      exact hs 1 r
  unfold stepS
  rcases Fin.exists_fin_two.mp ⟨q, rfl⟩ with h | h
  · subst h
    rw [held_accLhs_ne _ _ _ _ _ _ _ _ (.inl (by decide))]
    unfold fed
    rw [held_pushed, held_accLhs, held_pushed, h0, pass_apply]
    rfl
  · subst h
    rw [held_accLhs, h1, pass_apply]
    unfold fed
    rw [held_pushed, held_accLhs_ne _ _ _ _ _ _ _ _ (.inl (by decide)), held_pushed]
    rfl

/-- … and nothing to other rows. -/
theorem held_stepS_ne (s : Mxu Ideal) (r : Fin 2) (A : Nat) (hA : Mxu.Fits A 32) (A' : Nat) (hA' : Mxu.Fits A' 32)
    (hne : 4 * A' + 32 ≤ 4 * A ∨ 4 * A + 32 ≤ 4 * A') (x : FVec Ideal S32x256 .bf16)
    (t : FVec Ideal S256x256 .bf16 × FVec Ideal S256x256 .bf16) (q : Fin 2) (i : Fin 32) (c : Fin 256) :
    held (stepS s r A hA x t) q A' hA' i c = held s q A' hA' i c := by
  unfold stepS fed
  rw [held_accLhs_ne _ _ _ _ _ _ _ _ (.inr hne), held_pushed, held_accLhs_ne _ _ _ _ _ _ _ _ (.inr hne), held_pushed]

variable (X : Vec Ideal (SAct K) .bf16) (C : Vec Ideal (SCode K) .i8) (D : Vec Ideal (SDup K) .f32)

/-- Block `kt`'s products at a row and column. -/
def blockSum (q : Fin 2) (i : Fin 32) (c : Fin 256) (kt : Nat) : EReal :=
  if hk : kt < K then ∑ k : Fin 256, (actV X kt hk (ix2 i k) : EReal) * pick (tilesV C D kt hk) q (ix2 k c) else 0

/-- The last `n` blocks add the sum of their products. -/
theorem held_runS (q : Fin 2) (i : Fin 32) (c : Fin 256) : (n : Nat) → (hn : n ≤ K) → (s : Mxu Ideal) → Empty s →
    held (runS X C D n hn s) q 0 fits i c = held s q 0 fits i c + ∑ j ∈ Finset.range n, blockSum X C D q i c (K - n + j)
  | 0, _, s, _ => by simp [runS]
  | n + 1, hn, s, hs => by
    rw [runS, held_runS q i c n (by omega) _ (hs.stepS _ _ _ _ _), held_stepS _ hs, Finset.sum_range_succ', add_assoc]
    congr 1
    rw [add_comm]
    congr 1
    · refine Finset.sum_congr rfl fun j _ => ?_
      rw [show K - n + j = K - (n + 1) + (j + 1) by omega]
    · exact ((dif_pos (show K - (n + 1) < K by omega)).symm : _ = blockSum X C D q i c (K - (n + 1)))

theorem live_stepS (s : Mxu Ideal) (r : Fin 2) (A : Nat) (hA : Mxu.Fits A 32) (x : FVec Ideal S32x256 .bf16)
    (t : FVec Ideal S256x256 .bf16 × FVec Ideal S256x256 .bf16) (q : Fin 2) (i : Fin 32) :
    (stepS s r A hA x t).live q (Mxu.row hA i) = true := by
  unfold stepS
  rcases Fin.exists_fin_two.mp ⟨q, rfl⟩ with h | h
  · subst h
    rw [Mxu.live_accLhs]
    unfold fed
    rw [Mxu.live_pushed, Mxu.live_accLhs_row]
    simp
  · subst h
    exact Mxu.live_accLhs_row (fed s r A hA x t.1 t.2) 1 r A x hA i

theorem live_runS (q : Fin 2) (i : Fin 32) : (n : Nat) → (hn : n ≤ K) → (s : Mxu Ideal) → s.live q (Mxu.row fits i) = true →
    (runS X C D n hn s).live q (Mxu.row fits i) = true
  | 0, _, s, h => h
  | n + 1, hn, s, h => by
    rw [runS]
    exact live_runS q i n (by omega) _ (live_stepS _ _ _ _ _ _ _ _)

theorem live_sum (hK : 0 < K) (q : Fin 2) (i : Fin 32) :
    (runS X C D K (Nat.le_refl K) Mxu.init).live q (Mxu.row fits i) = true := by
  obtain ⟨n, rfl⟩ : ∃ n, K = n + 1 := ⟨K - 1, by omega⟩
  rw [runS]
  exact live_runS _ _ _ q i n (by omega) _ (live_stepS _ _ _ _ _ _ _ _)

/-- After all blocks each unit holds the sum of their products. -/
theorem acc_sumS (hK : 0 < K) (S : Vec Ideal (SScale K) .bf16) (q : Fin 2) (i : Fin 32) (c : Fin 256) :
    (sumS X C S).read q 0 fits (ix2 i c) = (∑ kt ∈ Finset.range K, blockSum X C (dupV S) q i c kt : EReal) := by
  have h := held_runS X C (dupV S) q i c K (Nat.le_refl K) Mxu.init (fun _ _ => rfl)
  rw [held, live_sum X C (dupV S) hK, if_pos rfl, held, Mxu.live_init, if_neg (by decide), zero_add, Nat.sub_self] at h
  simp only [Nat.zero_add] at h
  exact h

end Cert.Q4

end
-- ==== Proof.Tiles.lean ====
/-
  The tiles of a block at an element: row `r` of 256 belongs to group `r / 32` of the block, its half `r / 16 % 2`, packed row
  `r % 16 / 2` and nibble `r % 2`.
-/
module

public import proofs.«01_k».proof.Proof.Weights
public import proofs.«01_k».proof.Proof.Sum

@[expose] public section

set_option maxRecDepth 16384

noncomputable section

namespace Cert.Q4

open Idealize.ShloMosaic

section Parts
variable (s : Vec Ideal S1x16x128 .f32) (w : Vec Ideal S1x32x128 .i8) (r : Fin 16) (l : Fin 128)

theorem part0_apply : part0 s w (ix2 r l) = (nib (w (ix3 0 ⟨8 * 0 + r.val / 2, by omega⟩ l)) (r.val % 2) * s (ix3 0 r l) : EReal) := by
  unfold part0 scale
  pointwise [unpack_apply]

theorem part1_apply : part1 s w (ix2 r l) = (nib (w (ix3 0 ⟨8 * 1 + r.val / 2, by omega⟩ l)) (r.val % 2) * s (ix3 0 r l) : EReal) := by
  unfold part1 scale
  pointwise [unpack_apply]
  simp only [show (16 + r.val) / 2 = 8 + r.val / 2 by omega, show (16 + r.val) % 2 = r.val % 2 by omega]

theorem part2_apply : part2 s w (ix2 r l) = (nib (w (ix3 0 ⟨8 * 2 + r.val / 2, by omega⟩ l)) (r.val % 2) * s (ix3 0 r l) : EReal) := by
  unfold part2 scale
  pointwise [unpack_apply]
  simp only [show (32 + r.val) / 2 = 16 + r.val / 2 by omega, show (32 + r.val) % 2 = r.val % 2 by omega]

theorem part3_apply : part3 s w (ix2 r l) = (nib (w (ix3 0 ⟨8 * 3 + r.val / 2, by omega⟩ l)) (r.val % 2) * s (ix3 0 r l) : EReal) := by
  unfold part3 scale
  pointwise [unpack_apply]
  simp only [show (48 + r.val) / 2 = 24 + r.val / 2 by omega, show (48 + r.val) % 2 = r.val % 2 by omega]

end Parts

/-- Sixteen pieces of 16 rows, at a row. -/
theorem stack_apply (p : Fin 16 → FVec Ideal S16x128 .bf16) (r : Fin 256) (l : Fin 128) :
    stack (p 0) (p 1) (p 2) (p 3) (p 4) (p 5) (p 6) (p 7) (p 8) (p 9) (p 10) (p 11) (p 12) (p 13) (p 14) (p 15) (ix2 r l)
      = p ⟨r.val / 16, by omega⟩ (ix2 ⟨r.val % 16, by omega⟩ l) :=
  concatenate_ofFn_apply (t := S256x128) (s₁ := S16x128) 0 p concat16 rfl 16 rfl (ix2 r l) ⟨r.val / 16, by omega⟩ rfl (ix2 ⟨r.val % 16, by omega⟩ l) rfl
    (fun b hb => by
      match b, hb with
      | 0, hb => exact absurd rfl hb
      | 1, _ => rfl)

/-- Two tiles of 128 columns side by side, at a column. -/
theorem beside_apply (p : Fin 2 → FVec Ideal S256x128 .bf16) (r : Fin 256) (l : Fin 256) :
    beside (p 0) (p 1) (ix2 r l) = p ⟨l.val / 128, by omega⟩ (ix2 r ⟨l.val % 128, by omega⟩) :=
  concatenate_ofFn_apply (t := S256x256) (s₁ := S256x128) 1 p concat2 rfl 128 rfl (ix2 r l) ⟨l.val / 128, by omega⟩ rfl (ix2 r ⟨l.val % 128, by omega⟩) rfl
    (fun b hb => by
      match b, hb with
      | 0, _ => rfl
      | 1, hb => exact absurd rfl hb)

/-- The scales of column tile `k` and the codes of a half. -/
def Group.sc (g : Group Ideal) : Fin 4 → Vec Ideal S1x16x128 .f32 := ![g.s0, g.s1, g.s2, g.s3]
def Group.half (g : Group Ideal) : Fin 2 → Vec Ideal S1x32x128 .i8 := ![g.w0, g.w1]

/-- The 16 rows of one half of a group at column tile `k`. -/
def part (k : Fin 4) (s : Vec Ideal S1x16x128 .f32) (w : Vec Ideal S1x32x128 .i8) : FVec Ideal S16x128 .bf16 :=
  ![part0 s w, part1 s w, part2 s w, part3 s w] k

theorem part_apply (k : Fin 4) (s : Vec Ideal S1x16x128 .f32) (w : Vec Ideal S1x32x128 .i8) (r : Fin 16) (l : Fin 128) :
    part k s w (ix2 r l) = (nib (w (ix3 0 ⟨8 * k.val + r.val / 2, by omega⟩ l)) (r.val % 2) * s (ix3 0 r l) : EReal) := by
  match k with
  | 0 => exact part0_apply s w r l
  | 1 => exact part1_apply s w r l
  | 2 => exact part2_apply s w r l
  | 3 => exact part3_apply s w r l

/-- Piece `k` of a stack at column tile `c`: half `k % 2` of group `k / 2`. -/
def piece (G : Fin 8 → Group Ideal) (c : Fin 4) (k : Fin 16) : FVec Ideal S16x128 .bf16 :=
  part c ((G ⟨k.val / 2, by omega⟩).sc c) ((G ⟨k.val / 2, by omega⟩).half ⟨k.val % 2, by omega⟩)

/-- The stack at column tile `c`. -/
def column (G : Fin 8 → Group Ideal) (c : Fin 4) : FVec Ideal S256x128 .bf16 :=
  let p := piece G c
  stack (p 0) (p 1) (p 2) (p 3) (p 4) (p 5) (p 6) (p 7) (p 8) (p 9) (p 10) (p 11) (p 12) (p 13) (p 14) (p 15)

theorem tile0_eq (G : Fin 8 → Group Ideal) : tile0 (G 0) (G 1) (G 2) (G 3) (G 4) (G 5) (G 6) (G 7) = beside (column G 0) (column G 1) := rfl
theorem tile1_eq (G : Fin 8 → Group Ideal) : tile1 (G 0) (G 1) (G 2) (G 3) (G 4) (G 5) (G 6) (G 7) = beside (column G 2) (column G 3) := rfl

theorem column_apply (G : Fin 8 → Group Ideal) (c : Fin 4) (r : Fin 256) (l : Fin 128) :
    column G c (ix2 r l) = (nib ((G ⟨r.val / 32, by omega⟩).half ⟨r.val / 16 % 2, by omega⟩ (ix3 0 ⟨8 * c.val + r.val % 16 / 2, by omega⟩ l)) (r.val % 2)
      * (G ⟨r.val / 32, by omega⟩).sc c (ix3 0 ⟨r.val % 16, by omega⟩ l) : EReal) := by
  unfold column
  rw [stack_apply, piece, part_apply]
  simp only [Nat.div_div_eq_div_mul, show r.val % 16 % 2 = r.val % 2 by omega, Nat.reduceMul]

/-- The tile of unit `q`. -/
theorem pick_apply (G : Fin 8 → Group Ideal) (q : Fin 2) (r n : Fin 256) :
    pick (tile0 (G 0) (G 1) (G 2) (G 3) (G 4) (G 5) (G 6) (G 7), tile1 (G 0) (G 1) (G 2) (G 3) (G 4) (G 5) (G 6) (G 7)) q (ix2 r n)
      = column G ⟨2 * q.val + n.val / 128, by omega⟩ (ix2 r ⟨n.val % 128, by omega⟩) := by
  rw [tile0_eq, tile1_eq]
  have h := fun a b => beside_apply ![a, b] r n
  rcases (show n.val / 128 = 0 ∨ n.val / 128 = 1 by omega) with hn | hn <;>
    rcases Fin.exists_fin_two.mp ⟨q, rfl⟩ with hq | hq <;> subst hq <;>
    · refine (h _ _).trans ?_
      simp only [hn]
      rfl

variable {K : Nat} (C : Vec Ideal (SCode K) .i8) (D : Vec Ideal (SDup K) .f32)

theorem at_code (o : Nat) (ho : o < 16 * K) (a : Fin 32) (l : Fin 128) :
    at_ C (Rect.unit (s := SCode K) ![o, 0, 0] S1x32x128.size (inb_code ho)).toLoadRect (ix3 0 a l) = C (ix3 (⟨o, ho⟩ : Fin (16 * K)) a l) := by
  refine congrArg C (funext fun x => ?_)
  match x with
  | 0 => exact Fin.ext (show o + 1 * 0 = o by omega)
  | 1 => exact Fin.ext (show 0 + 1 * a.val = a.val by omega)
  | 2 => exact Fin.ext (show 0 + 1 * l.val = l.val by omega)

theorem groupV_half (g : Nat) (hg : g < 8 * K) (b : Fin 2) (a : Fin 32) (l : Fin 128) :
    (groupV C D g hg).half b (ix3 0 a l) = C (ix3 (⟨2 * g + b.val, by omega⟩ : Fin (16 * K)) a l) := by
  match b with
  | 0 => exact at_code C (2 * g) (by omega) a l
  | 1 => exact at_code C (2 * g + 1) (by omega) a l

theorem at_dup (c g : Nat) (hc : c < 4) (hg : g < 8 * K) (a : Fin 16) (l : Fin 128) :
    at_ D (⟨![c, g, 0], S1x16x128.size, ![1, 0, 1], inb_dup hc hg⟩ : LoadRect (SDup K)) (ix3 0 a l) = D (ix3 (⟨c, hc⟩ : Fin 4) (⟨g, hg⟩ : Fin (8 * K)) l) := by
  refine congrArg D (funext fun x => ?_)
  match x with
  | 0 => exact Fin.ext (show c + 1 * 0 = c by omega)
  | 1 => exact Fin.ext (show g + 0 * a.val = g by omega)
  | 2 => exact Fin.ext (show 0 + 1 * l.val = l.val by omega)

theorem groupV_sc (g : Nat) (hg : g < 8 * K) (c : Fin 4) (a : Fin 16) (l : Fin 128) :
    (groupV C D g hg).sc c (ix3 0 a l) = D (ix3 c (⟨g, hg⟩ : Fin (8 * K)) l) := by
  match c with
  | 0 => exact at_dup D 0 g (by decide) hg a l
  | 1 => exact at_dup D 1 g (by decide) hg a l
  | 2 => exact at_dup D 2 g (by decide) hg a l
  | 3 => exact at_dup D 3 g (by decide) hg a l

/-- The tiles of block `kt` at an element. -/
theorem tilesV_apply (kt : Nat) (hk : kt < K) (q : Fin 2) (r n : Fin 256) :
    pick (tilesV C D kt hk) q (ix2 r n)
      = (nib (C (ix3 (⟨2 * (8 * kt + r.val / 32) + r.val / 16 % 2, by omega⟩ : Fin (16 * K)) (⟨8 * (2 * q.val + n.val / 128) + r.val % 16 / 2, by omega⟩ : Fin 32)
            (⟨n.val % 128, by omega⟩ : Fin 128))) (r.val % 2)
        * D (ix3 (⟨2 * q.val + n.val / 128, by omega⟩ : Fin 4) (⟨8 * kt + r.val / 32, by omega⟩ : Fin (8 * K)) (⟨n.val % 128, by omega⟩ : Fin 128)) : EReal) := by
  refine (pick_apply (fun i => groupV C D (8 * kt + i.val) (by omega)) q r n).trans ?_
  rw [column_apply, groupV_half, groupV_sc]

end Cert.Q4

end
-- ==== Proof.Total.lean ====
/-
  The whole sum at an element, over the extended reals: what a unit holds after all blocks, as one sum over the contracted positions of
  the body's order. Position `k` is nibble `k % 2` of code `k % 32 / 2` of group `k / 32`, and meets the activation at `src k`.
-/
module

public import proofs.«01_k».proof.Proof.Tiles

@[expose] public section

set_option maxRecDepth 16384

noncomputable section

namespace Cert.Q4

open Idealize.ShloMosaic

/-- Sums over `n` blocks of `m` positions are the sum over all positions. -/
theorem sum_blocks {M : Type} [AddCommMonoid M] (m : Nat) (f : Nat → M) : (n : Nat) →
    ∑ i ∈ Finset.range n, ∑ j ∈ Finset.range m, f (m * i + j) = ∑ k ∈ Finset.range (m * n), f k
  | 0 => by simp
  | n + 1 => by rw [Finset.sum_range_succ, sum_blocks m f n, Nat.mul_succ, Finset.sum_range_add]

/-- The activation that position `k` of the body's order meets. -/
def src (k : Nat) : Nat := 32 * (k / 32) + 16 * (k % 2) + k % 32 / 2

theorem src_lt {K k : Nat} (h : k < 256 * K) : src k < 256 * K := by unfold src; omega

/-- The reordered activations of 128 lanes at a lane. -/
theorem reorder_apply (x : FVec Ideal S32x128 .bf16) (r : Fin 32) (l : Fin 128) :
    reorder x (ix2 r l) = x (ix2 r ⟨src l.val, by unfold src; omega⟩) := by
  unfold reorder
  pointwise [laneIdx]
  refine congrArg (fun a => x (ix2 r a)) (Fin.ext ?_)
  dsimp only
  revert l
  decide +kernel

variable {K : Nat} (A : Vec Ideal (SAct K) .bf16) (C : Vec Ideal (SCode K) .i8) (S : Vec Ideal (SScale K) .bf16)

/-- The reordered activations at a position. -/
theorem reordV_apply (i : Fin 32) (k : Fin (256 * K)) :
    reordV A (ix2 i k) = A (ix2 i (⟨src k.val, src_lt k.isLt⟩ : Fin (256 * K))) := by
  unfold reordV
  refine (reorder_apply _ i ⟨k.val % 128, by omega⟩).trans ?_
  refine congrArg A (funext fun x => ?_)
  match x with
  | 0 => exact Fin.ext (show 0 + 1 * i.val = i.val by omega)
  | 1 => exact Fin.ext (show 128 * (k.val / 128) + 1 * src (k.val % 128) = src k.val by unfold src; omega)

theorem actV_apply (kt : Nat) (hk : kt < K) (i : Fin 32) (k : Fin 256) :
    actV A kt hk (ix2 i k) = A (ix2 i (⟨256 * kt + k.val, by omega⟩ : Fin (256 * K))) := by
  refine congrArg A (funext fun x => ?_)
  match x with
  | 0 => exact Fin.ext (show 0 + 1 * i.val = i.val by omega)
  | 1 => exact Fin.ext (show 256 * kt + 1 * k.val = 256 * kt + k.val by omega)

theorem dupV_apply (c : Fin 4) (g : Fin (8 * K)) (l : Fin 128) :
    dupV S (ix3 c g l) = S (ix2 g (⟨128 * c.val + l.val, by omega⟩ : Fin 512)) := rfl

/-- Position `k`'s product for column `n` of 512. -/
def term (i : Fin 32) (n : Fin 512) (k : Nat) : EReal :=
  if h : k < 256 * K then
    (A (ix2 i (⟨src k, src_lt h⟩ : Fin (256 * K))) : EReal)
      * (nib (C (ix3 (⟨2 * (k / 32) + k / 16 % 2, by omega⟩ : Fin (16 * K)) (⟨8 * (n.val / 128) + k % 16 / 2, by omega⟩ : Fin 32) (⟨n.val % 128, by omega⟩ : Fin 128))) (k % 2)
        * S (ix2 (⟨k / 32, by omega⟩ : Fin (8 * K)) n))
  else 0

/-- A block's products are the terms of its 256 positions. -/
theorem blockSum_eq (i : Fin 32) (n : Fin 512) (kt : Nat) (hk : kt < K) :
    blockSum (reordV A) C (dupV S) ⟨n.val / 256, by omega⟩ i ⟨n.val % 256, by omega⟩ kt = ∑ k ∈ Finset.range 256, term A C S i n (256 * kt + k) := by
  rw [blockSum, dif_pos hk, Finset.sum_range]
  refine Finset.sum_congr rfl fun k _ => ?_
  rw [term, dif_pos (by omega)]
  refine congr (congrArg _ ?_) ?_
  · exact (actV_apply (reordV A) kt hk i k).trans (reordV_apply A i _)
  · refine (tilesV_apply C (dupV S) kt hk _ k _).trans ?_
    rw [dupV_apply]
    simp only [show 8 * kt + k.val / 32 = (256 * kt + k.val) / 32 by omega, show k.val / 16 % 2 = (256 * kt + k.val) / 16 % 2 by omega,
      show k.val % 16 = (256 * kt + k.val) % 16 by omega, show k.val % 2 = (256 * kt + k.val) % 2 by omega,
      show 2 * (n.val / 256) + n.val % 256 / 128 = n.val / 128 by omega, show n.val % 256 % 128 = n.val % 128 by omega,
      show 128 * (n.val / 128) + n.val % 128 = n.val by omega]

/-- The output block at an element. -/
theorem outV_apply (hK : 0 < K) (r : Vec Ideal S32x512 .f32) (i : Fin 32) (n : Fin 512) :
    outV r (sumS (reordV A) C S) (ix2 i n) = (r (ix2 i n) + ∑ k ∈ Finset.range (256 * K), term A C S i n k : EReal) := by
  have h := acc_sumS (reordV A) C hK S ⟨n.val / 256, by omega⟩ i ⟨n.val % 256, by omega⟩
  rw [Finset.sum_congr rfl fun kt hkt => blockSum_eq A C S i n kt (Finset.mem_range.mp hkt), sum_blocks] at h
  refine congrArg (fun z => (r (ix2 i n) + z : EReal)) (Eq.trans ?_ h)
  refine congrArg (fun R => (sumS (reordV A) C S).acc _ R _) (Fin.ext ?_)
  exact (Nat.zero_add _).symm

end Cert.Q4

end
-- ==== Proof.Output.lean ====
/-
  What the kernel leaves in its result, over the extended reals, in terms of its arguments.
-/
module

public import proofs.«01_k».proof.Proof.FrameIdeal
public import proofs.«01_k».proof.Proof.Total
public import Idealize.ShloMosaic.Lib.Pipeline.ValueKit.Point
public import Idealize.ShloMosaic.Lib.StableHlo.ReadAt

@[expose] public section

set_option maxRecDepth 16384

noncomputable section

namespace Cert.KernelIdeal.Run

open Cert.KernelIdeal Cert.KernelIdeal.Gen Idealize.ShloMosaic Idealize.ShloMosaic.TcCoe Idealize.SL.Sem Idealize.ShloMosaic.Pipeline

/-! ## The result as a function of the arguments -/

/-- Position `k`'s product for row `i` and column `n`: nibble `k % 2` of code `k % 32 / 2` of group `k / 32`, less eight, times the
    group's scale, times the activation that the nibble stands at. -/
def prod (A : Vec Ideal S32x10240 .bf16) (C : Vec Ideal S7168x320x16 .i8) (S : Vec Ideal S7168x320 .bf16) (i : Fin 32) (n : Fin 7168) (k : Nat) : EReal :=
  if h : k < 10240 then
    (A (ix2 i (⟨Q4.src k, Q4.src_lt (K := 40) h⟩ : Fin 10240)) : EReal)
      * (Q4.nib (C (ix3 n (⟨k / 32, by omega⟩ : Fin 320) (⟨k % 32 / 2, by omega⟩ : Fin 16))) (k % 2) * S (ix2 n (⟨k / 32, by omega⟩ : Fin 320)))
  else 0

/-- The residual plus all products. -/
def G (A : Vec Ideal S32x10240 .bf16) (R : Vec Ideal S32x7168 .f32) (C : Vec Ideal S7168x320x16 .i8) (S : Vec Ideal S7168x320 .bf16) : Vec Ideal S32x7168 .bf16 :=
  fun y => (R y + ∑ k ∈ Finset.range 10240, prod A C S (y 0) (y 1) k : EReal)

/-! ## The blocks in terms of the arguments -/

variable (m : (ℓ : Loc nD τ sig) → Buf (Elt Ideal) ℓ) (c : Dev nD) (t : Fin cfg0.N)

theorem idx : ∀ t : Fin cfg0.N, (cfg0.win 1).index t = ![0, t.val] ∧ (cfg0.win 2).index t = ![0, t.val, 0] ∧ (cfg0.win 3).index t = ![0, t.val]
    ∧ (cfg0.win 4).index t = ![0, t.val] ∧ (cfg0.win 0).index t0_0 = ![0, 0] := by decide

theorem t_lt (t : Fin cfg0.N) : t.val < 14 := t.isLt

/-- The codes' block, through the host's two transposes and reshapes. -/
theorem codes_at (r : Fin 640) (a : Fin 32) (l : Fin 128) :
    (iblk m c 2 t : Vec Ideal (Q4.SCode 40) .i8) (ix3 r a l)
      = m ((c.tc : Thread nD τ).loc main_arg2) (ix3 (⟨512 * t.val + 128 * (a.val / 8) + l.val, by have := t_lt t; omega⟩ : Fin 7168) (⟨r.val / 2, by omega⟩ : Fin 320)
          (⟨8 * (r.val % 2) + a.val % 8, by omega⟩ : Fin 16)) := by
  have ht := t_lt t
  have e : (iblk m c 2 t : Vec Ideal (Q4.SCode 40) .i8) (ix3 r a l) = V m c main_v3 (ix3 r (⟨32 * t.val + a.val, by omega⟩ : Fin 448) l) := by
    blk_ext [iblk, idx t]
  rw [e]
  after_reads_at
  refine congrArg (m (c, Proc.tc.devRef main_arg2)) ?_
  simp only [show (32 * t.val + a.val) / 8 * 128 + l.val = 512 * t.val + 128 * (a.val / 8) + l.val by omega,
    show r.val % 2 * 8 + (32 * t.val + a.val) % 8 = 8 * (r.val % 2) + a.val % 8 by omega]

/-- The scales' block, through the host's transpose. -/
theorem scales_at (g : Fin 320) (n : Fin 512) :
    (iblk m c 3 t : Vec Ideal (Q4.SScale 40) .bf16) (ix2 g n) = m ((c.tc : Thread nD τ).loc main_arg3) (ix2 (⟨512 * t.val + n.val, by have := t_lt t; omega⟩ : Fin 7168) g) := by
  have ht := t_lt t
  have e : (iblk m c 3 t : Vec Ideal (Q4.SScale 40) .bf16) (ix2 g n) = V m c main_v4 (ix2 g (⟨512 * t.val + n.val, by omega⟩ : Fin 7168)) := by
    blk_ext [iblk, idx t]
  rw [e]
  after_reads_at

/-- The residual's block. -/
theorem resid_at (i : Fin 32) (n : Fin 512) :
    (iblk m c 1 t : Vec Ideal Q4.S32x512 .f32) (ix2 i n) = m ((c.tc : Thread nD τ).loc main_arg1) (ix2 i (⟨512 * t.val + n.val, by have := t_lt t; omega⟩ : Fin 7168)) := by
  have ht := t_lt t
  blk_ext [iblk, V, idx t]

/-- The activations, whole. -/
theorem act_at (i : Fin 32) (k : Fin 10240) :
    (actA m c : Vec Ideal (Q4.SAct 40) .bf16) (ix2 i k) = m ((c.tc : Thread nD τ).loc main_arg0) (ix2 i k) := by
  blk_ext [actA, iblk, V, idx t0_0]

/-- A block's term is the product of its column of the array. -/
theorem term_eq (i : Fin 32) (n : Fin 512) (k : Nat) :
    Q4.term (K := 40) (actA m c) (iblk m c 2 t : Vec Ideal (Q4.SCode 40) .i8) (iblk m c 3 t : Vec Ideal (Q4.SScale 40) .bf16) i n k
      = prod (m ((c.tc : Thread nD τ).loc main_arg0)) (m ((c.tc : Thread nD τ).loc main_arg2)) (m ((c.tc : Thread nD τ).loc main_arg3)) i
          ⟨512 * t.val + n.val, by have := t_lt t; omega⟩ k := by
  unfold Q4.term prod
  by_cases h : k < 10240
  · rw [dif_pos h, dif_pos (show k < 256 * 40 from h)]
    refine congr (congrArg _ (act_at m c i _)) (congr (congrArg _ ?_) (scales_at m c t _ n))
    refine congrArg (Q4.nib · (k % 2)) ((codes_at m c t _ _ _).trans ?_)
    simp only [show (2 * (k / 32) + k / 16 % 2) / 2 = k / 32 by omega, show (8 * (n.val / 128) + k % 16 / 2) / 8 = n.val / 128 by omega,
      show 8 * ((2 * (k / 32) + k / 16 % 2) % 2) + (8 * (n.val / 128) + k % 16 / 2) % 8 = k % 32 / 2 by omega,
      show 512 * t.val + 128 * (n.val / 128) + n.val % 128 = 512 * t.val + n.val by omega]
  · rw [dif_neg h, dif_neg (show ¬ k < 256 * 40 from h)]

/-- A block of the output at an element. -/
theorem outB_apply (i : Fin 32) (n : Fin 512) :
    outB m c t (ix2 i n) = G (m ((c.tc : Thread nD τ).loc main_arg0)) (m ((c.tc : Thread nD τ).loc main_arg1)) (m ((c.tc : Thread nD τ).loc main_arg2))
      (m ((c.tc : Thread nD τ).loc main_arg3)) (ix2 i (⟨512 * t.val + n.val, by have := t_lt t; omega⟩ : Fin 7168)) := by
  refine (Q4.outV_apply (actA m c) (iblk m c 2 t : Vec Ideal (Q4.SCode 40) .i8) (iblk m c 3 t : Vec Ideal (Q4.SScale 40) .bf16) (by decide) _ i n).trans ?_
  exact congr (congrArg _ (resid_at m c t i n)) (Finset.sum_congr rfl fun k _ => term_eq m c t i n k)

/-- The result array after the run. -/
theorem out_eq : (dats m 0 c).arrAt 4 cfg0.N = G (m ((c.tc : Thread nD τ).loc main_arg0)) (m ((c.tc : Thread nD τ).loc main_arg1))
    (m ((c.tc : Thread nD τ).loc main_arg2)) (m ((c.tc : Thread nD τ).loc main_arg3)) := by
  generalize hG : G (m ((c.tc : Thread nD τ).loc main_arg0)) (m ((c.tc : Thread nD τ).loc main_arg1)) (m ((c.tc : Thread nD τ).loc main_arg2))
    (m ((c.tc : Thread nD τ).loc main_arg3)) = H
  refine (dats m 0 c).arrAt_eq_of_covers 4 H (by decide +kernel) fun t hf y => ?_
  have ht := t_lt t
  rw [after0_4]
  have hb := outB_apply m c t
  rw [hG] at hb
  generalize outB m c t = O at hb ⊢
  obtain ⟨i, n, rfl⟩ : ∃ (i : Fin 32) (n : Fin 512), y = ix2 i n := ⟨y 0, y 1, eq_ix2 y⟩
  refine Eq.trans (b := O (ix2 i n)) ?_ ((hb i n).trans ?_)
  · rfl
  · blk_ext [idx t]

end Cert.KernelIdeal.Run

end
-- ==== Proof.Halves.lean ====
/-
  What a plain product with unpacked weights shares with the kernels' sums: its weights' nibbles, and its two sums, of the low nibbles
  and of the high ones, as one sum over all contracted positions.
-/
module

public import proofs.«01_k».proof.Proof.Total

@[expose] public section

set_option maxRecDepth 16384

noncomputable section

namespace Cert.Value

open Idealize.ShloMosaic

/-- The pattern of eight. -/
theorem eight : Ideal.ofBits .bf16 0x4100#16 = ((8 : ℝ) : EReal) := by
  simp [Ideal.ofBits, Ideal.ieee, -EReal.coe_mul]; norm_num

/-- The low nibble by a mask. -/
theorem low : ∀ b : BitVec 8, (IntOp.andi (b.setWidth 32) 15#32).toInt = ((b.toNat / 16 ^ 0 % 16 : Nat) : Int) := by decide +kernel

/-- The high nibble by a shift. -/
theorem high : ∀ b : BitVec 8, (IntOp.shrsi .host (b.setWidth 32) 4#32).toInt = ((b.toNat / 16 ^ 1 % 16 : Nat) : Int) := by decide +kernel

/-- The reference's low weight, before its scale. -/
theorem low_nib (b : BitVec 8) :
    (FloatOps.sitofp (F := Ideal) .bf16 (IntOp.andi (b.setWidth 32) 15#32) - Ideal.ofBits .bf16 0x4100#16 : EReal) = Q4.nib b 0 := by
  rw [eight]
  change (((BitVec.toInt _ : ℤ) : ℝ) : EReal) - _ = _
  rw [low, Q4.nib]
  push_cast
  rfl

/-- The reference's high weight, before its scale. -/
theorem high_nib (b : BitVec 8) :
    (FloatOps.sitofp (F := Ideal) .bf16 (IntOp.shrsi .host (b.setWidth 32) 4#32) - Ideal.ofBits .bf16 0x4100#16 : EReal) = Q4.nib b 1 := by
  rw [eight]
  change (((BitVec.toInt _ : ℤ) : ℝ) : EReal) - _ = _
  rw [high, Q4.nib]
  push_cast
  rfl

/-- A sum over the positions of `n` blocks, block by block: its even positions and its odd ones. -/
theorem halves (n : Nat) (f : Nat → EReal) :
    ∑ k ∈ Finset.range (32 * n), f k
      = ∑ g : Fin n, ∑ j : Fin 16, f (32 * g.val + (2 * j.val + 0)) + ∑ g : Fin n, ∑ j : Fin 16, f (32 * g.val + (2 * j.val + 1)) := by
  rw [← Q4.sum_blocks 32 f n, ← Finset.sum_add_distrib, Finset.sum_range]
  refine Finset.sum_congr rfl fun g _ => ?_
  rw [show 32 = 2 * 16 from rfl, ← Q4.sum_blocks 2 _ 16, ← Finset.sum_add_distrib, Finset.sum_range]
  refine Finset.sum_congr rfl fun j _ => ?_
  rw [Finset.sum_range_succ, Finset.sum_range_one]

end Cert.Value

end
-- ==== Proof.Value.lean ====
/-
  The reference's result is the kernel's, over the extended reals: the low nibbles' sum and the high nibbles' sum are the even and the
  odd positions of the kernel's sum.
-/
module

public import proofs.«01_k».proof.Proof.Output
public import proofs.«01_k».proof.Proof.Halves
public import proofs.«01_k».proof.Proof.Gen.ReferenceIdeal.Run

@[expose] public section

set_option maxRecDepth 16384

noncomputable section

namespace Cert.Value

open Idealize.ShloMosaic Cert.ReferenceIdeal Cert.ReferenceIdeal.Gen

/-- One product of the kernel's sum, at a block, a code and a nibble. -/
theorem prod_at (A : Vec Ideal S32x10240 .bf16) (C : Vec Ideal S7168x320x16 .i8) (S : Vec Ideal S7168x320 .bf16) (i : Fin 32) (n : Fin 7168)
    (g : Fin 320) (j : Fin 16) (h : Nat) (hh : h < 2) (p : Fin 10240) (hp : p.val = 32 * g.val + 16 * h + j.val) :
    Cert.KernelIdeal.Run.prod A C S i n (32 * g.val + (2 * j.val + h)) = (A (ix2 i p) * (Q4.nib (C (ix3 n g j)) h * S (ix2 n g)) : EReal) := by
  have hg := g.isLt
  have hj := j.isLt
  have q1 : (32 * g.val + (2 * j.val + h)) / 32 = g.val := by omega
  have q2 : (32 * g.val + (2 * j.val + h)) % 32 = 2 * j.val + h := by omega
  have q3 : (2 * j.val + h) / 2 = j.val := by omega
  have q4 : (32 * g.val + (2 * j.val + h)) % 2 = h := by omega
  unfold Cert.KernelIdeal.Run.prod
  rw [dif_pos (by omega)]
  have e1 : (⟨Q4.src (32 * g.val + (2 * j.val + h)), Q4.src_lt (K := 40) (by omega)⟩ : Fin 10240) = p := Fin.ext (by
    rw [hp]; unfold Q4.src; dsimp only; rw [q1, q2, q3, q4])
  have e2 : (⟨(32 * g.val + (2 * j.val + h)) / 32, by omega⟩ : Fin 320) = g := Fin.ext q1
  have e3 : (⟨(32 * g.val + (2 * j.val + h)) % 32 / 2, by rw [q2, q3]; exact hj⟩ : Fin 16) = j := Fin.ext (by dsimp only; rw [q2, q3])
  rw [e1, e2, e3, q4]

variable (A : FVec Ideal S32x10240 .bf16) (R : FVec Ideal S32x7168 .f32) (C : IVec S7168x320x16 8) (S : FVec Ideal S7168x320 .bf16)

/-- The reference's term. -/
def ref : FVec Ideal S32x7168 .bf16 :=
  truncf .bf16 (addf R (addf (Host.dotGeneral dot_S32x320x16_S7168x320x16_S32x7168_12_12_0_0_n_n none (extractStridedSlice S32x320x16 ![0, 0, 0] (shapeCast _ A shapeCasts_S32x10240_S32x320x32) slices_S32x320x32_S32x320x16_0_0_0) (mulf (subf (sitofp .bf16 (andi (extui 32 C natLt_8_32) (broadcastInDim S7168x320x16 ![] bcast_S_S7168x320x16 (constantI S_ 32 15#32)))) (broadcastInDim S7168x320x16 ![] bcast_S_S7168x320x16 (constant S_ .bf16 0x4100#16))) (broadcastInDim S7168x320x16 ![0, 1, 2] bcast_S7168x320x1_S7168x320x16_0_1_2 (broadcastInDim S7168x320x1 ![0, 1] bcast_S7168x320_S7168x320x1_0_1 S)))) (Host.dotGeneral dot_S32x320x16_S7168x320x16_S32x7168_12_12_0_0_n_n none (extractStridedSlice S32x320x16 ![0, 0, 16] (shapeCast _ A shapeCasts_S32x10240_S32x320x32) slices_S32x320x32_S32x320x16_0_0_16) (mulf (subf (sitofp .bf16 (Host.shrsi (extui 32 C natLt_8_32) (broadcastInDim S7168x320x16 ![] bcast_S_S7168x320x16 (constantI S_ 32 4#32)))) (broadcastInDim S7168x320x16 ![] bcast_S_S7168x320x16 (constant S_ .bf16 0x4100#16))) (broadcastInDim S7168x320x16 ![0, 1, 2] bcast_S7168x320x1_S7168x320x16_0_1_2 (broadcastInDim S7168x320x1 ![0, 1] bcast_S7168x320_S7168x320x1_0_1 S)))))) bitsLt_bf16_f32

theorem ref_eq : ref A R C S = Cert.KernelIdeal.Run.G A R C S := by
  funext y
  obtain ⟨i, n, rfl⟩ : ∃ (i : Fin 32) (n : Fin 7168), y = ix2 i n := ⟨y 0, y 1, eq_ix2 y⟩
  unfold ref
  pointwise
  simp only [low_nib, high_nib]
  have eG : Cert.KernelIdeal.Run.G A R C S (ix2 i n) = (R (ix2 i n) + ∑ k ∈ Finset.range 10240, Cert.KernelIdeal.Run.prod A C S i n k : EReal) := rfl
  rw [eG, (halves 320 _ : ∑ k ∈ Finset.range 10240, Cert.KernelIdeal.Run.prod A C S i n k = _)]
  refine congrArg (fun z : EReal => (R (ix2 i n) + z : EReal)) (congrArg₂ (fun z w : EReal => z + w) ?_ ?_)
  · exact Finset.sum_congr rfl fun g _ => Finset.sum_congr rfl fun j _ => (prod_at A C S i n g j 0 (by omega) _ (by dsimp only; omega)).symm
  · exact Finset.sum_congr rfl fun g _ => Finset.sum_congr rfl fun j _ => (prod_at A C S i n g j 1 (by omega) _ (by dsimp only; omega)).symm

end Cert.Value

end
-- ==== Proof.GateFeed.lean ====
/-
  The gate and up projections' body as a program: the activations normalised and copied with their lanes reordered (`normCopy`), two
  matrices' blocks fed in turns (`blocks2`), the two sums of each unit combined and stored (`putGated`).
-/
module

public import proofs.«01_k».proof.Proof.Feed

@[expose] public section

set_option maxRecDepth 16384

noncomputable section

namespace Cert.Q4

open Idealize.ShloMosaic Idealize.ShloMosaic.TcCoe
open Idealize.SL.Sem

abbrev S32 : Shape := ⟨1, ![32]⟩
abbrev S32x1 : Shape := ⟨2, ![32, 1]⟩
abbrev S1x128 : Shape := ⟨2, ![1, 128]⟩
/-- The gain, 128 lanes to a row. -/
abbrev SGain (K : Nat) : Shape := ⟨2, ![2 * K, 128]⟩

theorem inb_gain {K t : Nat} (h : t < 2 * K) : ∀ a, (![t, 0] : Fin 2 → Nat) a + S1x128.size a ≤ (SGain K).size a := by
  intro a; fin_cases a <;> simp <;> omega
theorem h_S1x128 : 0 < S1x128.numel := by decide
theorem fits8 : Mxu.Fits 8 32 := by decide

section Programs
variable {F : FTy → Type} [FloatOps F] {nD : Nat} {τ : Topo} {sig : RefSig} {Λ : Labels} {K : Nat}

/-! ## The norm -/

/-- The squares of `n` tiles of 128 lanes from tile `t` on, added to `s`. -/
def sqTiles (a : Memref sig .tc .vmem (SAct K) .f32) : (n t : Nat) → t + n ≤ 2 * K → FVec F S32x128 .f32 → Prog (TpuEff nD τ sig (Elt F) Λ .tc) (FVec F S32x128 .f32)
  | 0, _, _, s => pure s
  | n + 1, t, ht, s => do
    let x : Vec F S32x128 .f32 ← Prog.lift (.load a (Rect.unit (s := SAct K) ![0, 128 * t] S32x128.size (inb_lane (by omega))).toLoadRect (View.loadsAt_vmem h_S32x128))
    sqTiles a n (t + 1) (by omega) (addf s (mulf x x))

/-- From the lanes' sums of squares of 7168 columns, each row's scale. -/
def rowScale (s : FVec F S32x128 .f32) : FVec F S32x1 .f32 :=
  rsqrt (addf (divf (shapeCast S32x1 (multiReduction .add [1] S32 s 0x00000000#32 (by decide) (.inl rfl) rfl) (by decide))
    (broadcast S32x1 (Scalar.ofBits .f32 0x45E00000#32))) (broadcast S32x1 (Scalar.ofBits .f32 0x358637BD#32)))

/-- A tile normalised: times its row's scale, times the gain. -/
def normTile (x : Vec F S32x128 .f32) (r : FVec F S32x1 .f32) (g : Vec F S1x128 .bf16) : FVec F S32x128 .bf16 :=
  truncf .bf16 (mulf (mulf x (broadcastTo S32x128 r (by decide)) : FVec F S32x128 .f32)
    (broadcastTo S32x128 (extf .f32 (shapeCast S1x128 g (by decide) : FVec F S1x128 .bf16) (by decide)) (by decide))) (by decide)

/-- `n` tiles from tile `t` on normalised, reordered and stored. -/
def normTiles (a : Memref sig .tc .vmem (SAct K) .f32) (g : Memref sig .tc .vmem (SGain K) .bf16) (h : Memref sig .tc .vmem (SAct K) .bf16) (hh : h.IsWhole)
    (r : FVec F S32x1 .f32) : (n t : Nat) → t + n ≤ 2 * K → Prog (TpuEff nD τ sig (Elt F) Λ .tc) PUnit
  | 0, _, _ => pure ⟨⟩
  | n + 1, t, ht => do
    let x : Vec F S32x128 .f32 ← Prog.lift (.load a (Rect.unit (s := SAct K) ![0, 128 * t] S32x128.size (inb_lane (by omega))).toLoadRect (View.loadsAt_vmem h_S32x128))
    let y : Vec F S1x128 .bf16 ← Prog.lift (.load g (Rect.unit (s := SGain K) ![t, 0] S1x128.size (inb_gain (by omega))).toLoadRect (View.loadsAt_vmem h_S1x128))
    putTile h hh t (by omega) (reorder (normTile x r y))
    normTiles a g h hh r n (t + 1) (by omega)

/-- The activations' copy. -/
def normCopy (a : Memref sig .tc .vmem (SAct K) .f32) (g : Memref sig .tc .vmem (SGain K) .bf16) (h : Memref sig .tc .vmem (SAct K) .bf16) (hh : h.IsWhole) :
    Prog (TpuEff nD τ sig (Elt F) Λ .tc) PUnit := do
  let s ← sqTiles a (2 * K) 0 (by omega) (broadcast S32x128 (Scalar.ofBits .f32 0x00000000#32))
  normTiles a g h hh (rowScale s) (2 * K) 0 (by omega)

/-- The sums of squares of `n` tiles from tile `t` on, and tile `u`. -/
def sqSome (a : Memref sig .tc .vmem (SAct K) .f32) (n t u : Nat) (ht : t + n ≤ 2 * K) (hu : u < 2 * K) (s : FVec F S32x128 .f32) :
    Prog (TpuEff nD τ sig (Elt F) Λ .tc) (Σ' (_ : FVec F S32x128 .f32), Vec F S32x128 .f32) := do
  let s ← sqTiles a n t (by omega) s
  let x : Vec F S32x128 .f32 ← Prog.lift (.load a (Rect.unit (s := SAct K) ![0, 128 * u] S32x128.size (inb_lane (by omega))).toLoadRect (View.loadsAt_vmem h_S32x128))
  pure ⟨s, x⟩

/-- The sums of squares of the tiles that are left, the rows' scales, and the first tile's products with them. -/
def normHead (hK : 0 < K) (a : Memref sig .tc .vmem (SAct K) .f32) (g : Memref sig .tc .vmem (SGain K) .bf16) (n t : Nat) (ht : t + n ≤ 2 * K) (s : FVec F S32x128 .f32) :
    Prog (TpuEff nD τ sig (Elt F) Λ .tc) (Σ' (_ : FVec F S32x1 .f32) (_ : FVec F S32x128 .f32), Vec F S1x128 .bf16) := do
  let s ← sqTiles a n t (by omega) s
  let x : Vec F S32x128 .f32 ← Prog.lift (.load a (Rect.unit (s := SAct K) ![0, 128 * 0] S32x128.size (inb_lane (by omega))).toLoadRect (View.loadsAt_vmem h_S32x128))
  let y : Vec F S1x128 .bf16 ← Prog.lift (.load g (Rect.unit (s := SGain K) ![0, 0] S1x128.size (inb_gain (by omega))).toLoadRect (View.loadsAt_vmem h_S1x128))
  pure ⟨rowScale s, mulf x (broadcastTo S32x128 (rowScale s) (by decide)), y⟩

/-- A tile times the gain. -/
def gainTile (x : FVec F S32x128 .f32) (g : Vec F S1x128 .bf16) : FVec F S32x128 .bf16 :=
  truncf .bf16 (mulf x (broadcastTo S32x128 (extf .f32 (shapeCast S1x128 g (by decide) : FVec F S1x128 .bf16) (by decide)) (by decide))) (by decide)

theorem sq_split {α : Type} (a : Memref sig .tc .vmem (SAct K) .f32) (m u : Nat) (hm : u + 1 + m ≤ 2 * K) : (n t : Nat) → (hu : u = t + n) → (k : Nat) → (hk : k = m + 1 + n) →
    (ht : t + k ≤ 2 * K) → (s : FVec F S32x128 .f32) → (G : FVec F S32x128 .f32 → Prog (TpuEff nD τ sig (Elt F) Λ .tc) α) →
    (sqTiles a k t ht s >>= G) = (sqSome a n t u (by omega) (by omega) s >>= fun p => sqTiles a m (u + 1) (by omega) (addf p.1 (mulf p.2 p.2)) >>= G)
  | 0, t, hu, k, hk, ht, s, G => by
    obtain rfl : t = u := hu.symm
    obtain rfl : k = m + 1 := hk
    rfl
  | n + 1, t, hu, k, hk, ht, s, G => by
    obtain rfl : k = (m + 1 + n) + 1 := hk
    unfold sqSome
    rw [sqTiles, sqTiles, bind_assoc, bind_assoc, bind_assoc]
    refine bind_congr fun x => ?_
    rw [sq_split a m u hm n (t + 1) (by omega) _ rfl _ _ G]
    unfold sqSome
    rw [bind_assoc]

theorem norm_split (hK : 0 < K) (a : Memref sig .tc .vmem (SAct K) .f32) (g : Memref sig .tc .vmem (SGain K) .bf16) (h : Memref sig .tc .vmem (SAct K) .bf16) (hh : h.IsWhole)
    (n t m : Nat) (ht : t + n ≤ 2 * K) (hm : m + 1 = 2 * K) (s : FVec F S32x128 .f32) :
    (sqTiles (nD := nD) (τ := τ) (Λ := Λ) a n t ht s >>= fun s => normTiles a g h hh (rowScale s) (2 * K) 0 (by omega))
      = (normHead hK a g n t ht s >>= fun p => putTile h hh 0 (by omega) (reorder (gainTile p.2.1 p.2.2)) >>= fun _ => normTiles a g h hh p.1 m 1 (by omega)) := by
  unfold normHead
  rw [bind_assoc]
  refine bind_congr fun s => ?_
  have e : ∀ (k : Nat) (hk : 0 + k ≤ 2 * K), k = m + 1 → normTiles (nD := nD) (τ := τ) (Λ := Λ) a g h hh (rowScale s) k 0 hk = normTiles a g h hh (rowScale s) (m + 1) 0 (by omega) := by
    rintro k hk rfl; rfl
  rw [e _ _ hm.symm]
  rfl

/-- Both sides' first steps are the same program, and the rests agree on what it returns. -/
theorem first_congr {α β γ : Type} {p p' : Prog (TpuEff nD τ sig (Elt F) Λ .tc) β} (h : p = p') {f : β → Prog (TpuEff nD τ sig (Elt F) Λ .tc) γ}
    {g : γ → Prog (TpuEff nD τ sig (Elt F) Λ .tc) α} {k : β → Prog (TpuEff nD τ sig (Elt F) Λ .tc) α} {P' : Prog (TpuEff nD τ sig (Elt F) Λ .tc) α}
    (hP' : P' = (p' >>= k)) (H : ∀ b, (f b >>= g) = k b) : ((p >>= f) >>= g) = P' := by
  subst h hP'
  rw [bind_assoc]
  exact bind_congr H

/-! ## The blocks -/

/-- The last `n` of the `K` blocks of two matrices: the first accumulates at address 0, the second at address 8. -/
def blocks2 (h : Memref sig .tc .vmem (SAct K) .bf16) (c0 c1 : Memref sig .tc .vmem (SCode K) .i8) (d0 d1 : Memref sig .tc .vmem (SDup K) .f32) :
    (n : Nat) → n ≤ K → Mxu F → Prog (TpuEff nD τ sig (Elt F) Λ .tc) (Mxu F)
  | 0, _, s => pure s
  | n + 1, hn, s => do
    let x ← act h (K - (n + 1)) (by omega)
    let t ← tiles c0 d0 (K - (n + 1)) (by omega)
    let s' ← feed s 0 0 fits x t
    let t' ← tiles c1 d1 (K - (n + 1)) (by omega)
    let s'' ← feed s' 1 8 fits8 x t'
    blocks2 h c0 c1 d0 d1 n (by omega) s''

/-- A program that starts with the operations of one matrix's tiles and their feeding is that followed by the rest, given that its
    rest is from every state the feeding may leave. -/
theorem feed_congr {α : Type} (codes : Memref sig .tc .vmem (SCode K) .i8) (dup : Memref sig .tc .vmem (SDup K) .f32) (kt : Nat) (hk : kt < K)
    (r : Fin 2) (A : Nat) (hA : Mxu.Fits A 32) {s : Mxu F} {x : Vec F S32x256 .bf16}
    {cont : Mxu F → Prog (TpuEff nD τ sig (Elt F) Λ .tc) α} {P P' : Prog (TpuEff nD τ sig (Elt F) Λ .tc) α}
    (hP' : P' = (tiles codes dup kt hk >>= fun t => feed s r A hA x t >>= cont))
    {k : Rest F (Rest F (Rest F (Rest F (Rest F (Rest F (Rest F (Rest F (Prog (TpuEff nD τ sig (Elt F) Λ .tc) α))))))))}
    (hP : P = (
      withGroup codes dup (8 * kt) (by omega) fun a0 a1 a2 a3 a4 a5 =>
      withGroup codes dup (8 * kt + 1) (by omega) fun b0 b1 b2 b3 b4 b5 =>
      withGroup codes dup (8 * kt + 2) (by omega) fun c0 c1 c2 c3 c4 c5 =>
      withGroup codes dup (8 * kt + 3) (by omega) fun d0 d1 d2 d3 d4 d5 =>
      withGroup codes dup (8 * kt + 4) (by omega) fun e0 e1 e2 e3 e4 e5 =>
      withGroup codes dup (8 * kt + 5) (by omega) fun f0 f1 f2 f3 f4 f5 =>
      withGroup codes dup (8 * kt + 6) (by omega) fun g0 g1 g2 g3 g4 g5 =>
      withGroup codes dup (8 * kt + 7) (by omega) fun i0 i1 i2 i3 i4 i5 =>
      .op (.assume (s.PushOk 0 r false)) fun _ =>
      .op (.assume (((s.pushed 0 r false (tile0 (F := F) ⟨a0, a1, a2, a3, a4, a5⟩ ⟨b0, b1, b2, b3, b4, b5⟩ ⟨c0, c1, c2, c3, c4, c5⟩ ⟨d0, d1, d2, d3, d4, d5⟩ ⟨e0, e1, e2, e3, e4, e5⟩ ⟨f0, f1, f2, f3, f4, f5⟩ ⟨g0, g1, g2, g3, g4, g5⟩ ⟨i0, i1, i2, i3, i4, i5⟩)).accLhs 0
          r A x hA).PushOk 1 r false)) fun _ =>
      k a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5))
    (H : ∀
      a0 a1 a2 a3 a4 a5
      b0 b1 b2 b3 b4 b5
      c0 c1 c2 c3 c4 c5
      d0 d1 d2 d3 d4 d5
      e0 e1 e2 e3 e4 e5
      f0 f1 f2 f3 f4 f5
      g0 g1 g2 g3 g4 g5
      i0 i1 i2 i3 i4 i5
      (s' : Mxu F), fed (F := F) s r A hA x
        (tile0 ⟨a0, a1, a2, a3, a4, a5⟩ ⟨b0, b1, b2, b3, b4, b5⟩ ⟨c0, c1, c2, c3, c4, c5⟩ ⟨d0, d1, d2, d3, d4, d5⟩ ⟨e0, e1, e2, e3, e4, e5⟩ ⟨f0, f1, f2, f3, f4, f5⟩ ⟨g0, g1, g2, g3, g4, g5⟩ ⟨i0, i1, i2, i3, i4, i5⟩)
        (tile1 ⟨a0, a1, a2, a3, a4, a5⟩ ⟨b0, b1, b2, b3, b4, b5⟩ ⟨c0, c1, c2, c3, c4, c5⟩ ⟨d0, d1, d2, d3, d4, d5⟩ ⟨e0, e1, e2, e3, e4, e5⟩ ⟨f0, f1, f2, f3, f4, f5⟩ ⟨g0, g1, g2, g3, g4, g5⟩ ⟨i0, i1, i2, i3, i4, i5⟩) = s' →
      k a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5 =
        cont (s'.accLhs 1 r A x hA))
      : P = P' := by
  subst hP hP'
  have H' := fun a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5 => H a0 a1 a2 a3 a4 a5 b0 b1 b2 b3 b4 b5 c0 c1 c2 c3 c4 c5 d0 d1 d2 d3 d4 d5 e0 e1 e2 e3 e4 e5 f0 f1 f2 f3 f4 f5 g0 g1 g2 g3 g4 g5 i0 i1 i2 i3 i4 i5 _ rfl
  simp only [H']
  rfl

/-- A program that starts with a block's load of the activations. -/
theorem act_congr {α : Type} (h : Memref sig .tc .vmem (SAct K) .bf16) (c0 c1 : Memref sig .tc .vmem (SCode K) .i8) (d0 d1 : Memref sig .tc .vmem (SDup K) .f32)
    {n : Nat} {hn : n + 1 ≤ K} {s : Mxu F} {fin : Mxu F → Prog (TpuEff nD τ sig (Elt F) Λ .tc) α} {P P' : Prog (TpuEff nD τ sig (Elt F) Λ .tc) α}
    (hP' : P' = (blocks2 h c0 c1 d0 d1 (n + 1) hn s >>= fin))
    {k : Vec F S32x256 .bf16 → Prog (TpuEff nD τ sig (Elt F) Λ .tc) α} (hP : P = (act h (K - (n + 1)) (by omega) >>= k))
    (H : ∀ x, k x = (tiles c0 d0 (K - (n + 1)) (by omega) >>= fun t => feed s 0 0 fits x t >>= fun s' =>
      tiles c1 d1 (K - (n + 1)) (by omega) >>= fun t' => feed s' 1 8 fits8 x t' >>= fun s'' => blocks2 h c0 c1 d0 d1 n (by omega) s'' >>= fin)) : P = P' := by
  obtain rfl : k = _ := funext H
  subst hP hP'
  rfl

/-! ## The end -/

/-- The 256 columns of unit `q`: the first sum times its logistic, times the second sum. -/
def gated (s : Mxu F) (q : Fin 2) : FVec F S32x256 .bf16 :=
  truncf .bf16 (mulf (mulf (s.read q 0 fits : FVec F S32x256 .f32) (logistic (s.read q 0 fits : FVec F S32x256 .f32))) ((s.pop q 0 32 fits).read q 8 fits8)) (by decide)

/-- They are popped and stored. -/
def putGated (s : Mxu F) (q : Fin 2) (o : Memref sig .tc .vmem S32x512 .bf16) (ho : o.IsWhole) :
    Prog (TpuEff nD τ sig (Elt F) Λ .tc) (Mxu F) := do
  let _ : Vec F S32x256 .bf16 ← Prog.lift (.load o (Rect.unit (s := S32x512) ![0, 256 * q.val] S32x256.size (inb_out q.isLt)).toLoadRect (View.loadsAt_vmem h_S32x256))
  Prog.lift (.store o (Rect.unit (s := S32x512) ![0, 256 * q.val] S32x256.size (inb_out q.isLt)) (gated s q) Finset.univ
    (View.stores_vmem h_S32x256 (ho.storeExact_slice rfl _ (packed_out q.isLt)) (fun _ => rfl)) (.inl rfl))
  pure ((s.pop q 0 32 fits).pop q 8 32 fits8)

/-- The body after the copy of the activations. -/
def gateBody (hK : 0 < K) (c0 : Memref sig .tc .vmem (SCode K) .i8) (s0 : Memref sig .tc .vmem (SScale K) .bf16)
    (c1 : Memref sig .tc .vmem (SCode K) .i8) (s1 : Memref sig .tc .vmem (SScale K) .bf16)
    (o : Memref sig .tc .vmem S32x512 .bf16) (ho : o.IsWhole) (h : Memref sig .tc .vmem (SAct K) .bf16) (d0 d1 : Memref sig .tc .vmem (SDup K) .f32) :
    Prog (TpuEff nD τ sig (Elt F) Λ .tc) PUnit := do
  prepScales hK s0 d0
  prepScales hK s1 d1
  let s ← blocks2 h c0 c1 d0 d1 K (Nat.le_refl K) Mxu.init
  let s1 ← putGated s 0 o ho
  let s2 ← putGated s1 1 o ho
  s2.exit

end Programs

end Cert.Q4

end
-- ==== Proof.GateBridgeKernel.lean ====
/-
  The printed body of the gate and up projections, over its parts, is the program of GateFeed.lean.
-/
module

public import proofs.«01_k».proof.Proof.GateFeed
public import proofs.«01_k».proof.Proof.Gen.GateUp

@[expose] public section

set_option maxRecDepth 65536
set_option maxHeartbeats 0

noncomputable section

namespace Cert.GateUp.Bridge

open Cert.GateUp Cert.GateUp.Gen
open Idealize.ShloMosaic Idealize.ShloMosaic.TcCoe
open Idealize.SL.Sem

variable {F : FTy → Type} [FloatOps F]
variable (i : grid0.Coords) (arg1 : Memref sig .tc .vmem S32x7168 .f32) (harg1 : arg1.IsWhole) (arg2 : Memref sig .tc .vmem S56x128 .bf16) (harg2 : arg2.IsWhole)
  (arg3 : Memref sig .tc .vmem S448x32x128 .i8) (harg3 : arg3.IsWhole) (arg4 : Memref sig .tc .vmem S224x512 .bf16) (harg4 : arg4.IsWhole)
  (arg5 : Memref sig .tc .vmem S448x32x128 .i8) (harg5 : arg5.IsWhole) (arg6 : Memref sig .tc .vmem S224x512 .bf16) (harg6 : arg6.IsWhole)
  (arg7 : Memref sig .tc .vmem S32x512 .bf16) (harg7 : arg7.IsWhole) (arg8 : Memref sig .tc .vmem S32x7168 .bf16) (harg8 : arg8.IsWhole)
  (arg9 : Memref sig .tc .vmem S4x224x128 .f32) (harg9 : arg9.IsWhole) (arg10 : Memref sig .tc .vmem S4x224x128 .f32) (harg10 : arg10.IsWhole)

/-- Is this the first point of the grid? As the body asks it. -/
abbrev First : Prop := Scalar.cmpi .ne (Scalar.extui (Scalar.cmpi .eq (BitVec.ofNat 32 (i 0).val) 0#32) : BitVec 32) 0#32 = 1#1

/-- The load that follows the first matrix's scales. -/
abbrev firstCol : Prog (TpuEff nD τ sig (Elt F) Λ₀ .tc) (Vec F (Q4.SCol 28) .bf16) :=
  Prog.lift (.load arg6 (Rect.unit (s := Q4.SScale 28) ![0, 128 * 0] (Q4.SCol 28).size (Q4.inb_scale (by decide))).toLoadRect (View.loadsAt_vmem (Q4.h_SCol (by decide))))

/-! The first five parts of the copy: the sums of squares, tile by tile. -/

theorem sq1 : (k0_part1 i arg1 harg1 arg2 harg2 arg3 harg3 arg4 harg4 arg5 harg5 arg6 harg6 arg7 harg7 arg8 harg8 arg9 harg9 arg10 harg10 : Prog (TpuEff nD τ sig (Elt F) Λ₀ .tc) _)
    = Q4.sqSome (K := 28) arg1 11 0 11 (by omega) (by omega) (broadcast Q4.S32x128 (Scalar.ofBits .f32 0x00000000#32)) := rfl
theorem sq2 (s : FVec F Q4.S32x128 .f32) (x : Vec F Q4.S32x128 .f32) : (k0_part2 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.sqSome (K := 28) arg1 11 12 23 (by omega) (by omega) (addf s (mulf x x)) := rfl
theorem sq3 (s : FVec F Q4.S32x128 .f32) (x : Vec F Q4.S32x128 .f32) : (k0_part3 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.sqSome (K := 28) arg1 11 24 35 (by omega) (by omega) (addf s (mulf x x)) := rfl
theorem sq4 (s : FVec F Q4.S32x128 .f32) (x : Vec F Q4.S32x128 .f32) : (k0_part4 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.sqSome (K := 28) arg1 11 36 47 (by omega) (by omega) (addf s (mulf x x)) := rfl
theorem sq5 (s : FVec F Q4.S32x128 .f32) (x : Vec F Q4.S32x128 .f32) : (k0_part5 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.normHead (K := 28) (by decide) arg1 arg2 8 48 (by omega) (addf s (mulf x x)) := rfl

/-- The part that makes the copy. -/
theorem first_pos (hc : First i) : (k0_part52 i arg1 harg1 arg2 harg2 arg3 harg3 arg4 harg4 arg5 harg5 arg6 harg6 arg7 harg7 arg8 harg8 arg9 harg9 arg10 harg10 : Prog (TpuEff nD τ sig (Elt F) Λ₀ .tc) _)
  = (do
  Q4.normCopy (K := 28) arg1 arg2 arg8 harg8
  Q4.prepScales (K := 28) (by decide) arg4 arg9
  let x ← firstCol arg6
  pure ⟨Mxu.init, shapeCast (Q4.SCol 28) x Q4.casts_col⟩) := by
  unfold k0_part52
  refine (dif_pos hc).trans ?_
  unfold k0_part51 Q4.normCopy
  refine Q4.first_congr (sq1 i arg1 harg1 arg2 harg2 arg3 harg3 arg4 harg4 arg5 harg5 arg6 harg6 arg7 harg7 arg8 harg8 arg9 harg9 arg10 harg10)
    ((bind_assoc _ _ _).trans (Q4.sq_split (K := 28) arg1 44 11 (by omega) 11 0 rfl 56 rfl _ _ _)) ?_
  rintro ⟨s1, x1⟩
  refine Q4.first_congr (sq2 i arg1 harg1 arg2 harg2 arg3 harg3 arg4 harg4 arg5 harg5 arg6 harg6 arg7 harg7 arg8 harg8 arg9 harg9 arg10 harg10 s1 x1)
    (Q4.sq_split (K := 28) arg1 32 23 (by omega) 11 12 rfl 44 rfl _ _ _) ?_
  rintro ⟨s2, x2⟩
  refine Q4.first_congr (sq3 i arg1 harg1 arg2 harg2 arg3 harg3 arg4 harg4 arg5 harg5 arg6 harg6 arg7 harg7 arg8 harg8 arg9 harg9 arg10 harg10 s2 x2)
    (Q4.sq_split (K := 28) arg1 20 35 (by omega) 11 24 rfl 32 rfl _ _ _) ?_
  rintro ⟨s3, x3⟩
  refine Q4.first_congr (sq4 i arg1 harg1 arg2 harg2 arg3 harg3 arg4 harg4 arg5 harg5 arg6 harg6 arg7 harg7 arg8 harg8 arg9 harg9 arg10 harg10 s3 x3)
    (Q4.sq_split (K := 28) arg1 8 47 (by omega) 11 36 rfl 20 rfl _ _ _) ?_
  rintro ⟨s4, x4⟩
  refine Q4.first_congr (sq5 i arg1 harg1 arg2 harg2 arg3 harg3 arg4 harg4 arg5 harg5 arg6 harg6 arg7 harg7 arg8 harg8 arg9 harg9 arg10 harg10 s4 x4)
    ((bind_assoc _ _ _).symm.trans ((congrArg (· >>= _) (Q4.norm_split (K := 28) (by decide) arg1 arg2 arg8 harg8 8 48 55 (by omega) rfl _)).trans (bind_assoc _ _ _))) ?_
  rintro ⟨r, x, g⟩
  rfl

theorem first_neg (hc : ¬ First i) : (k0_part52 i arg1 harg1 arg2 harg2 arg3 harg3 arg4 harg4 arg5 harg5 arg6 harg6 arg7 harg7 arg8 harg8 arg9 harg9 arg10 harg10 : Prog (TpuEff nD τ sig (Elt F) Λ₀ .tc) _)
  = (do
  Q4.prepScales (K := 28) (by decide) arg4 arg9
  let x ← firstCol arg6
  pure ⟨Mxu.init, shapeCast (Q4.SCol 28) x Q4.casts_col⟩) := by
  unfold k0_part52; exact (dif_neg hc).trans rfl

theorem after {α : Type} {P k k' : Prog (TpuEff nD τ sig (Elt F) Λ₀ .tc) α} {pre : Prog (TpuEff nD τ sig (Elt F) Λ₀ .tc) PUnit}
    (h : (pre >>= fun _ => k) = P) (hk : k = k') : P = (pre >>= fun _ => k') := hk ▸ h.symm

/-- The body after whatever comes before the scales' copies. -/
theorem body_after (pre : Prog (TpuEff nD τ sig (Elt F) Λ₀ .tc) PUnit)
    (h : (k0_part52 i arg1 harg1 arg2 harg2 arg3 harg3 arg4 harg4 arg5 harg5 arg6 harg6 arg7 harg7 arg8 harg8 arg9 harg9 arg10 harg10 : Prog (TpuEff nD τ sig (Elt F) Λ₀ .tc) _)
      = (do
        pre
        Q4.prepScales (K := 28) (by decide) arg4 arg9
        let x ← firstCol arg6
        pure ⟨Mxu.init, shapeCast (Q4.SCol 28) x Q4.casts_col⟩)) :
    (cc0_gate_up i arg1 harg1 arg2 harg2 arg3 harg3 arg4 harg4 arg5 harg5 arg6 harg6 arg7 harg7 arg8 harg8 arg9 harg9 arg10 harg10 : Prog (TpuEff nD τ sig (Elt F) Λ₀ .tc) PUnit)
      = (pre >>= fun _ => Q4.gateBody (K := 28) (by decide) arg3 arg4 arg5 arg6 arg7 harg7 arg8 arg9 arg10) := by
  unfold cc0_gate_up k0_part623 Q4.gateBody
  rw [h]
  refine (bind_assoc _ _ _).trans ((bind_assoc _ _ _).trans (congrArg (pre >>= ·) (funext fun _ => ?_)))
  refine after rfl ?_
  refine after rfl ?_
  iterate 28
    (refine Q4.act_congr (F := F) (K := 28) arg8 arg3 arg5 arg9 arg10 rfl rfl ?_
     intro x
     refine Q4.feed_congr (F := F) (K := 28) arg3 arg9 _ _ 0 0 Q4.fits rfl rfl ?_
     intros
     rename_i s' hs
     generalize hE : Mxu.pushed (F := F) (φ := .bf16) _ 1 _ _ _ = t
     obtain rfl : t = s' := hE.symm.trans hs
     clear hE hs
     refine Q4.feed_congr (F := F) (K := 28) arg5 arg10 _ _ 1 8 Q4.fits8 rfl rfl ?_
     intros
     rename_i s' hs
     generalize hE : Mxu.pushed (F := F) (φ := .bf16) _ 1 _ _ _ = t
     obtain rfl : t = s' := hE.symm.trans hs
     clear hE hs)
  rfl

theorem body_neg (hc : ¬ First i) :
    (cc0_gate_up i arg1 harg1 arg2 harg2 arg3 harg3 arg4 harg4 arg5 harg5 arg6 harg6 arg7 harg7 arg8 harg8 arg9 harg9 arg10 harg10 : Prog (TpuEff nD τ sig (Elt F) Λ₀ .tc) PUnit)
      = Q4.gateBody (K := 28) (by decide) arg3 arg4 arg5 arg6 arg7 harg7 arg8 arg9 arg10 :=
  body_after i arg1 harg1 arg2 harg2 arg3 harg3 arg4 harg4 arg5 harg5 arg6 harg6 arg7 harg7 arg8 harg8 arg9 harg9 arg10 harg10 (pure ⟨⟩) (first_neg i arg1 harg1 arg2 harg2 arg3 harg3 arg4 harg4 arg5 harg5 arg6 harg6 arg7 harg7 arg8 harg8 arg9 harg9 arg10 harg10 hc)

theorem body_pos (hc : First i) :
    (cc0_gate_up i arg1 harg1 arg2 harg2 arg3 harg3 arg4 harg4 arg5 harg5 arg6 harg6 arg7 harg7 arg8 harg8 arg9 harg9 arg10 harg10 : Prog (TpuEff nD τ sig (Elt F) Λ₀ .tc) PUnit)
      = (Q4.normCopy (K := 28) arg1 arg2 arg8 harg8 >>= fun _ =>
          Q4.gateBody (K := 28) (by decide) arg3 arg4 arg5 arg6 arg7 harg7 arg8 arg9 arg10) :=
  body_after i arg1 harg1 arg2 harg2 arg3 harg3 arg4 harg4 arg5 harg5 arg6 harg6 arg7 harg7 arg8 harg8 arg9 harg9 arg10 harg10 (Q4.normCopy (K := 28) arg1 arg2 arg8 harg8) (first_pos i arg1 harg1 arg2 harg2 arg3 harg3 arg4 harg4 arg5 harg5 arg6 harg6 arg7 harg7 arg8 harg8 arg9 harg9 arg10 harg10 hc)

end Cert.GateUp.Bridge

end
-- ==== Proof.GateRun.lean ====
/-
  The gate and up projections' body as a triple over its buffers: the normalised, reordered activations are written at the first grid
  point and read at every one; the output is what the units' sums give.
-/
module

public import proofs.«01_k».proof.Proof.GateFeed
public import proofs.«01_k».proof.Proof.Body

@[expose] public section

set_option maxRecDepth 16384

noncomputable section

namespace Cert.Q4

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : Nat} {τ : Topo} {sig : RefSig} {Λ : Labels} {K : Nat}

local notation "𝕄" => MT nD τ sig Unit (Elt F) ℕ (UR sig nD τ) ℕ

/-- The buffers of a call: activations, gain, the first matrix's codes and scales, the second's, output, normalised activations, the
    copied scales of each matrix. -/
structure Bufs2 (sig : RefSig) (K : Nat) where
  x : Memref sig .tc .vmem (SAct K) .f32
  g : Memref sig .tc .vmem (SGain K) .bf16
  c0 : Memref sig .tc .vmem (SCode K) .i8
  s0 : Memref sig .tc .vmem (SScale K) .bf16
  c1 : Memref sig .tc .vmem (SCode K) .i8
  s1 : Memref sig .tc .vmem (SScale K) .bf16
  o : Memref sig .tc .vmem S32x512 .bf16
  h : Memref sig .tc .vmem (SAct K) .bf16
  d0 : Memref sig .tc .vmem (SDup K) .f32
  d1 : Memref sig .tc .vmem (SDup K) .f32

/-- Their contents. -/
structure Vals2 (F : FTy → Type) (K : Nat) where
  x : Vec F (SAct K) .f32
  g : Vec F (SGain K) .bf16
  c0 : Vec F (SCode K) .i8
  s0 : Vec F (SScale K) .bf16
  c1 : Vec F (SCode K) .i8
  s1 : Vec F (SScale K) .bf16
  o : Vec F S32x512 .bf16
  h : Vec F (SAct K) .bf16
  d0 : Vec F (SDup K) .f32
  d1 : Vec F (SDup K) .f32

/-- The buffers held with these contents. -/
def St2 (c : Dev nD) (B : Bufs2 sig K) (V : Vals2 F K) : sProp 𝕄 :=
  iprop(owns (c : Thread nD τ) B.x fullShare V.x ∗ owns (c : Thread nD τ) B.g fullShare V.g ∗ owns (c : Thread nD τ) B.c0 fullShare V.c0 ∗ owns (c : Thread nD τ) B.s0 fullShare V.s0
    ∗ owns (c : Thread nD τ) B.c1 fullShare V.c1 ∗ owns (c : Thread nD τ) B.s1 fullShare V.s1 ∗ owns (c : Thread nD τ) B.o fullShare V.o
    ∗ owns (c : Thread nD τ) B.h fullShare V.h ∗ owns (c : Thread nD τ) B.d0 fullShare V.d0 ∗ owns (c : Thread nD τ) B.d1 fullShare V.d1)

section Holds
variable (c : Dev nD) (B : Bufs2 sig K) (V : Vals2 F K)

theorem St2.x : (St2 c B V : sProp 𝕄) ⊢ iprop(owns (c : Thread nD τ) B.x fullShare V.x ∗ (owns (c : Thread nD τ) B.x fullShare V.x -∗ St2 c B V)) := by
  unfold St2; iintro ⟨Hx, Hg, Hc0, Hs0, Hc1, Hs1, Ho, Hh, Hd0, Hd1⟩
  isplitl [Hx]; · iexact Hx
  iintro Hx; iframe
theorem St2.g : (St2 c B V : sProp 𝕄) ⊢ iprop(owns (c : Thread nD τ) B.g fullShare V.g ∗ (owns (c : Thread nD τ) B.g fullShare V.g -∗ St2 c B V)) := by
  unfold St2; iintro ⟨Hx, Hg, Hc0, Hs0, Hc1, Hs1, Ho, Hh, Hd0, Hd1⟩
  isplitl [Hg]; · iexact Hg
  iintro Hg; iframe
theorem St2.c0 : (St2 c B V : sProp 𝕄) ⊢ iprop(owns (c : Thread nD τ) B.c0 fullShare V.c0 ∗ (owns (c : Thread nD τ) B.c0 fullShare V.c0 -∗ St2 c B V)) := by
  unfold St2; iintro ⟨Hx, Hg, Hc0, Hs0, Hc1, Hs1, Ho, Hh, Hd0, Hd1⟩
  isplitl [Hc0]; · iexact Hc0
  iintro Hc0; iframe
theorem St2.s0 : (St2 c B V : sProp 𝕄) ⊢ iprop(owns (c : Thread nD τ) B.s0 fullShare V.s0 ∗ (owns (c : Thread nD τ) B.s0 fullShare V.s0 -∗ St2 c B V)) := by
  unfold St2; iintro ⟨Hx, Hg, Hc0, Hs0, Hc1, Hs1, Ho, Hh, Hd0, Hd1⟩
  isplitl [Hs0]; · iexact Hs0
  iintro Hs0; iframe
theorem St2.c1 : (St2 c B V : sProp 𝕄) ⊢ iprop(owns (c : Thread nD τ) B.c1 fullShare V.c1 ∗ (owns (c : Thread nD τ) B.c1 fullShare V.c1 -∗ St2 c B V)) := by
  unfold St2; iintro ⟨Hx, Hg, Hc0, Hs0, Hc1, Hs1, Ho, Hh, Hd0, Hd1⟩
  isplitl [Hc1]; · iexact Hc1
  iintro Hc1; iframe
theorem St2.s1 : (St2 c B V : sProp 𝕄) ⊢ iprop(owns (c : Thread nD τ) B.s1 fullShare V.s1 ∗ (owns (c : Thread nD τ) B.s1 fullShare V.s1 -∗ St2 c B V)) := by
  unfold St2; iintro ⟨Hx, Hg, Hc0, Hs0, Hc1, Hs1, Ho, Hh, Hd0, Hd1⟩
  isplitl [Hs1]; · iexact Hs1
  iintro Hs1; iframe
theorem St2.o (X : Vec F S32x512 .bf16) : (St2 c B V : sProp 𝕄) ⊢ iprop(owns (c : Thread nD τ) B.o fullShare V.o ∗ (owns (c : Thread nD τ) B.o fullShare X -∗ St2 c B { V with o := X })) := by
  unfold St2; iintro ⟨Hx, Hg, Hc0, Hs0, Hc1, Hs1, Ho, Hh, Hd0, Hd1⟩
  isplitl [Ho]; · iexact Ho
  iintro Ho; iframe
theorem St2.h (X : Vec F (SAct K) .bf16) : (St2 c B V : sProp 𝕄) ⊢ iprop(owns (c : Thread nD τ) B.h fullShare V.h ∗ (owns (c : Thread nD τ) B.h fullShare X -∗ St2 c B { V with h := X })) := by
  unfold St2; iintro ⟨Hx, Hg, Hc0, Hs0, Hc1, Hs1, Ho, Hh, Hd0, Hd1⟩
  isplitl [Hh]; · iexact Hh
  iintro Hh; iframe
theorem St2.d0 (X : Vec F (SDup K) .f32) : (St2 c B V : sProp 𝕄) ⊢ iprop(owns (c : Thread nD τ) B.d0 fullShare V.d0 ∗ (owns (c : Thread nD τ) B.d0 fullShare X -∗ St2 c B { V with d0 := X })) := by
  unfold St2; iintro ⟨Hx, Hg, Hc0, Hs0, Hc1, Hs1, Ho, Hh, Hd0, Hd1⟩
  isplitl [Hd0]; · iexact Hd0
  iintro Hd0; iframe
theorem St2.d1 (X : Vec F (SDup K) .f32) : (St2 c B V : sProp 𝕄) ⊢ iprop(owns (c : Thread nD τ) B.d1 fullShare V.d1 ∗ (owns (c : Thread nD τ) B.d1 fullShare X -∗ St2 c B { V with d1 := X })) := by
  unfold St2; iintro ⟨Hx, Hg, Hc0, Hs0, Hc1, Hs1, Ho, Hh, Hd0, Hd1⟩
  isplitl [Hd1]; · iexact Hd1
  iintro Hd1; iframe

end Holds

/-! ## What the steps compute -/

/-- The squares of `n` tiles from tile `t` on, added to `s`. -/
def sqV (X : Vec F (SAct K) .f32) : (n t : Nat) → t + n ≤ 2 * K → FVec F S32x128 .f32 → FVec F S32x128 .f32
  | 0, _, _, s => s
  | n + 1, t, ht, s =>
    let x : FVec F S32x128 .f32 := at_ X (Rect.unit (s := SAct K) ![0, 128 * t] S32x128.size (inb_lane (by omega))).toLoadRect
    sqV X n (t + 1) (by omega) (addf s (mulf x x))

/-- Each row's scale. -/
def scaleV (X : Vec F (SAct K) .f32) : FVec F S32x1 .f32 :=
  rowScale (sqV X (2 * K) 0 (by omega) (broadcast S32x128 (Scalar.ofBits .f32 0x00000000#32)))

/-- Tile `t` normalised. -/
def tileV (X : Vec F (SAct K) .f32) (G : Vec F (SGain K) .bf16) (r : FVec F S32x1 .f32) (t : Nat) (ht : t < 2 * K) : FVec F S32x128 .bf16 :=
  normTile (at_ X (Rect.unit (s := SAct K) ![0, 128 * t] S32x128.size (inb_lane ht)).toLoadRect) r
    (at_ G (Rect.unit (s := SGain K) ![t, 0] S1x128.size (inb_gain ht)).toLoadRect)

/-- The activations normalised. -/
def normV (X : Vec F (SAct K) .f32) (G : Vec F (SGain K) .bf16) (r : FVec F S32x1 .f32) : Vec F (SAct K) .bf16 := fun y =>
  tileV X G r ((y 1).val / 128) (div128 (y 1).isLt) (ix2 (⟨(y 0).val, (y 0).isLt⟩ : Fin 32) (⟨(y 1).val % 128, Nat.mod_lt _ (by decide)⟩ : Fin 128))

theorem at_normV (X : Vec F (SAct K) .f32) (G : Vec F (SGain K) .bf16) (r : FVec F S32x1 .f32) (t : Nat) (ht : t < 2 * K) :
    at_ (normV X G r) (Rect.unit (s := SAct K) ![0, 128 * t] S32x128.size (inb_lane ht)).toLoadRect = tileV X G r t ht := by
  funext y
  obtain ⟨i, l, rfl⟩ : ∃ (i : Fin 32) (l : Fin 128), y = ix2 i l := ⟨y 0, y 1, eq_ix2 y⟩
  have e : ∀ (u : Nat) (hu : u < 2 * K) (i' : Fin 32) (l' : Fin 128), u = t → i' = i → l' = l → tileV X G r u hu (ix2 i' l') = tileV X G r t ht (ix2 i l) := by
    rintro u hu i' l' rfl rfl rfl; rfl
  refine e _ (by show (128 * t + 1 * l.val) / 128 < 2 * K; omega) _ _ ?_ (Fin.ext ?_) (Fin.ext ?_)
  · show (128 * t + 1 * l.val) / 128 = t; omega
  · show 0 + 1 * i.val = i.val; omega
  · show (128 * t + 1 * l.val) % 128 = l.val; omega

/-- The normalised activations as the blocks read them. -/
def copyV (X : Vec F (SAct K) .f32) (G : Vec F (SGain K) .bf16) : Vec F (SAct K) .bf16 := reordV (normV X G (scaleV X))

/-- The units' state after the last `n` blocks. -/
def runS2 (H : Vec F (SAct K) .bf16) (C0 C1 : Vec F (SCode K) .i8) (D0 D1 : Vec F (SDup K) .f32) : (n : Nat) → n ≤ K → Mxu F → Mxu F
  | 0, _, s => s
  | n + 1, hn, s => runS2 H C0 C1 D0 D1 n (by omega)
      (stepS (stepS s 0 0 fits (actV H (K - (n + 1)) (by omega)) (tilesV C0 D0 (K - (n + 1)) (by omega))) 1 8 fits8
        (actV H (K - (n + 1)) (by omega)) (tilesV C1 D1 (K - (n + 1)) (by omega)))

/-- The units after all blocks. -/
def sumS2 (H : Vec F (SAct K) .bf16) (C0 C1 : Vec F (SCode K) .i8) (S0 S1 : Vec F (SScale K) .bf16) : Mxu F :=
  runS2 H C0 C1 (dupV S0) (dupV S1) K (Nat.le_refl K) Mxu.init

theorem Empty.runS2 {H : Vec F (SAct K) .bf16} {C0 C1 : Vec F (SCode K) .i8} {D0 D1 : Vec F (SDup K) .f32} :
    (n : Nat) → (hn : n ≤ K) → (s : Mxu F) → Empty s → Empty (runS2 H C0 C1 D0 D1 n hn s)
  | 0, _, s, hs => hs
  | n + 1, hn, s, hs => Empty.runS2 n _ _ ((hs.stepS _ _ _ _ _).stepS _ _ _ _ _)

theorem Low.runS2 {H : Vec F (SAct K) .bf16} {C0 C1 : Vec F (SCode K) .i8} {D0 D1 : Vec F (SDup K) .f32} :
    (n : Nat) → (hn : n ≤ K) → (s : Mxu F) → Low 64 s → Low 64 (runS2 H C0 C1 D0 D1 n hn s)
  | 0, _, s, hs => hs
  | n + 1, hn, s, hs => Low.runS2 n _ _ ((hs.stepS _ _ _ (by decide) _ _).stepS _ _ _ (by decide) _ _)

/-- Both sums of a unit popped. -/
def pop2 (s : Mxu F) (q : Fin 2) : Mxu F := (s.pop q 0 32 fits).pop q 8 32 fits8

/-- Both units popped, nothing is left in them. -/
theorem drained2 {s : Mxu F} (he : Empty s) (hl : Low 64 s) : (pop2 (pop2 s 0) 1).Drained := by
  unfold pop2
  refine ⟨fun q r => by rw [Mxu.reg_pop, Mxu.reg_pop, Mxu.reg_pop, Mxu.reg_pop, he]; rfl, fun q R => ?_⟩
  rw [Mxu.live_pop, Mxu.live_pop, Mxu.live_pop, Mxu.live_pop]
  split
  · rfl
  split
  · rfl
  split
  · rfl
  split
  · rfl
  rename_i h1 h2 h3 h4
  by_contra hc
  have hR := hl q R (by simpa using hc)
  rcases Fin.exists_fin_two.mp ⟨q, rfl⟩ with h | h
  · by_cases hb : R.val < 32
    · exact h4 ⟨h, by omega, by omega⟩
    · exact h3 ⟨h, by omega, by omega⟩
  · by_cases hb : R.val < 32
    · exact h2 ⟨h, by omega, by omega⟩
    · exact h1 ⟨h, by omega, by omega⟩

theorem gated_pop (s : Mxu F) : gated (pop2 s 0) 1 = gated s 1 := by
  unfold gated pop2
  rw [Mxu.read_pop_ne _ _ _ _ _ _ _ (by simp), Mxu.read_pop_ne _ _ _ _ _ _ _ (by simp), Mxu.read_pop_ne _ _ _ _ _ _ _ (by simp),
    Mxu.read_pop_ne _ _ _ _ _ _ _ (by simp), Mxu.read_pop_ne _ _ _ _ _ _ _ (by simp), Mxu.read_pop_ne _ _ _ _ _ _ _ (by simp)]

/-- The output: at each column what its half's unit gives. -/
def gatedV (s : Mxu F) : Vec F S32x512 .bf16 := fun y =>
  gated s ⟨(y 1).val / 256, by have h : (y 1).val < 512 := (y 1).isLt; omega⟩
    (ix2 (⟨(y 0).val, by have h : (y 0).val < 32 := (y 0).isLt; omega⟩ : Fin 32) (⟨(y 1).val % 256, Nat.mod_lt _ (by decide)⟩ : Fin 256))

theorem put_gated (s : Mxu F) (O : Vec F S32x512 .bf16) (q : Fin 2) :
    VecWindow.put O ![0, 256 * q.val] S32x256.size (gated s q) = fun y => if (y 1).val / 256 = q.val then gatedV s y else O y := by
  funext y
  unfold VecWindow.put
  have h0 : (y 0).val < 32 := (y 0).isLt
  have h1 : (y 1).val < 512 := (y 1).isLt
  by_cases h : (y 1).val / 256 = q.val
  · rw [if_pos h, dif_pos (fun a => by match a with | 0 => simp; try omega | 1 => simp; try omega)]
    have e : ∀ (q' : Fin 2) (z z' : S32x256.Idx), q' = q → z = z' → gated s q z = gated s q' z' := by rintro _ _ _ rfl rfl; rfl
    refine e _ _ _ (Fin.ext h) (funext fun a => ?_)
    match a with
    | 0 => apply Fin.ext; show (y 0).val - 0 = (y 0).val; omega
    | 1 => apply Fin.ext; show (y 1).val - 256 * q.val = (y 1).val % 256; omega
  · rw [if_neg h, dif_neg (by intro hh; have := hh 1; simp at this; omega)]

theorem put_gateds (s : Mxu F) (O : Vec F S32x512 .bf16) :
    (fun y => if (y 1).val / 256 = 1 then gatedV s y else (fun y => if (y 1).val / 256 = 0 then gatedV s y else O y : Vec F S32x512 .bf16) y : Vec F S32x512 .bf16)
      = gatedV s := by
  funext y
  have h1 : (y 1).val < 512 := (y 1).isLt
  dsimp only
  split_ifs <;> first | rfl | omega

/-! ## The steps -/

section Steps
variable {defs : Defs nD τ sig (Elt F) Λ} {𝒱 : Variants} {c : Dev nD} {E : Set ℕ} (B : Bufs2 sig K) (V : Vals2 F K)

theorem reads_sq : (n t : Nat) → (ht : t + n ≤ 2 * K) → (s : FVec F S32x128 .f32) → Reads defs 𝒱 c E (St2 c B V) (sqTiles B.x n t ht s) (sqV V.x n t ht s)
  | 0, _, _, s => Reads.pure _ _
  | n + 1, t, ht, s => (Reads.load (St2.x c B V)).bind (reads_sq n (t + 1) (by omega) _)

theorem steps_norm (hh : B.h.IsWhole) (r : FVec F S32x1 .f32) (X : Vec F (SAct K) .bf16) : (n t : Nat) → (ht : t + n = 2 * K) →
    Steps defs 𝒱 c E (St2 c B { V with h := partV t (normV V.x V.g r) X }) (normTiles B.x B.g B.h hh r n t (by omega)) ⟨⟩
      (St2 c B { V with h := reordV (normV V.x V.g r) })
  | 0, t, ht => by
    obtain rfl : t = 2 * K := by omega
    rw [partV_all]
    exact Reads.pure _ _
  | n + 1, t, ht => by
    unfold normTiles putTile
    refine (Reads.load (St2.x c B _)).bind <| (Reads.load (St2.g c B _)).bind ?_
    refine Steps.bind (v := (PUnit.unit : PUnit)) ?_ (steps_norm hh r X n (t + 1) (by omega))
    refine (Reads.load (St2.h c B _ _)).bind ?_
    have e := put_tile t (by omega) (normV V.x V.g r) X
    rw [at_normV _ _ _ _ (by omega)] at e
    rw [← e]
    exact Steps.store (St2.h c B { V with h := partV t (normV V.x V.g r) X } _)

theorem steps_normCopy (hh : B.h.IsWhole) :
    Steps defs 𝒱 c E (St2 c B V) (normCopy B.x B.g B.h hh) ⟨⟩ (St2 c B { V with h := copyV V.x V.g }) := by
  have h := steps_norm (defs := defs) (𝒱 := 𝒱) (c := c) (E := E) B V hh (scaleV V.x) V.h (2 * K) 0 (by omega)
  rw [partV_zero] at h
  exact (reads_sq B V _ _ _ _).bind h

theorem reads_blocks2 : (n : Nat) → (hn : n ≤ K) → (s : Mxu F) → Empty s →
    Reads defs 𝒱 c E (St2 c B V) (blocks2 B.h B.c0 B.c1 B.d0 B.d1 n hn s) (runS2 V.h V.c0 V.c1 V.d0 V.d1 n hn s)
  | 0, _, s, _ => Reads.pure _ _
  | n + 1, hn, s, hs => by
    refine (Reads.load (St2.h c B V V.h)).bind <| (reads_tiles (St2.c0 c B V) (St2.d0 c B V V.d0) _ _).bind <| (reads_feed s hs _ _ _ _ _).bind <|
      (reads_tiles (St2.c1 c B V) (St2.d1 c B V V.d1) _ _).bind <| (reads_feed _ (hs.stepS _ _ _ _ _) _ _ _ _ _).bind ?_
    exact reads_blocks2 n (by omega) _ ((hs.stepS _ _ _ _ _).stepS _ _ _ _ _)

theorem steps_gated (ho : B.o.IsWhole) (s : Mxu F) (q : Fin 2) :
    Steps defs 𝒱 c E (St2 c B V) (putGated s q B.o ho) (pop2 s q)
      (St2 c B { V with o := VecWindow.put V.o ![0, 256 * q.val] S32x256.size (gated s q) }) := by
  refine (Reads.load (St2.o c B V V.o)).bind <| (Steps.store (St2.o c B V _)).bind ?_
  exact Reads.pure _ _

/-- The body after the copy of the activations. -/
theorem steps_gate (hK : 0 < K) (ho : B.o.IsWhole) :
    Steps defs 𝒱 c E (St2 c B V) (gateBody hK B.c0 B.s0 B.c1 B.s1 B.o ho B.h B.d0 B.d1) ⟨⟩
      (St2 c B { V with o := gatedV (sumS2 V.h V.c0 V.c1 V.s0 V.s1), d0 := dupV V.s0, d1 := dupV V.s1 }) := by
  refine (steps_scales (R := fun D => St2 c B { V with d0 := D }) (fun D => St2.s0 c B _) (fun D X => St2.d0 c B _ X) hK V.d0).bind <|
    (steps_scales (R := fun D => St2 c B { V with d0 := dupV V.s0, d1 := D }) (fun D => St2.s1 c B _) (fun D X => St2.d1 c B _ X) hK V.d1).bind <|
    (reads_blocks2 B _ K _ _ (fun q r => Mxu.reg_init q r)).bind ?_
  refine (steps_gated B _ ho _ 0).bind <| (steps_gated B _ ho _ 1).bind ?_
  dsimp only
  rw [gated_pop, put_gated, put_gated]
  refine Steps.assume (drained2 (Empty.runS2 _ _ _ (fun q r => Mxu.reg_init q r)) (Low.runS2 _ _ _ (fun q R h => by simp at h))) ?_
  exact Steps.done (PUnit.unit : PUnit) (congrArg (fun X => St2 c B { V with o := X, d0 := dupV V.s0, d1 := dupV V.s1 }) (put_gateds _ V.o))

/-- The whole body at the first grid point. -/
theorem steps_gate_first (hK : 0 < K) (hh : B.h.IsWhole) (ho : B.o.IsWhole) :
    Steps defs 𝒱 c E (St2 c B V) (normCopy B.x B.g B.h hh >>= fun _ => gateBody hK B.c0 B.s0 B.c1 B.s1 B.o ho B.h B.d0 B.d1) ⟨⟩
      (St2 c B { V with h := copyV V.x V.g, o := gatedV (sumS2 (copyV V.x V.g) V.c0 V.c1 V.s0 V.s1), d0 := dupV V.s0, d1 := dupV V.s1 }) :=
  (steps_normCopy B V hh).bind (steps_gate B _ hK ho)

end Steps

end Cert.Q4

end
-- ==== Proof.GateFrameKernel.lean ====
/-
  The run of the gate and up projections: what each grid point leaves in its windows, the invariant the scratch buffers keep (after
  the first point the normalised activations), the body's obligation, the launch, and the frame.
-/
module

public import proofs.«01_k».proof.Proof.GateBridgeKernel
public import proofs.«01_k».proof.Proof.GateRun
public import proofs.«01_k».proof.Proof.Gen.GateUp.Frame

@[expose] public section

set_option maxRecDepth 16384

noncomputable section

namespace Cert.GateUp.Run

open Cert.GateUp Cert.GateUp.Gen Cert.GateUp.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0_0 : Fin cfg0.N := ⟨0, by decide⟩

/-- The activations and the gain, whole at every grid point. -/
abbrev actA (c : Dev nD) : Vec F (Q4.SAct 28) .f32 := iblk m c 0 t0_0
abbrev gainA (c : Dev nD) : Vec F (Q4.SGain 28) .bf16 := iblk m c 1 t0_0

theorem iblk0 (c : Dev nD) (t : Fin cfg0.N) : iblk m c 0 t = actA m c := rfl
theorem iblk1 (c : Dev nD) (t : Fin cfg0.N) : iblk m c 1 t = gainA m c := rfl

/-- The normalised activations' copy. -/
def copyA (c : Dev nD) : Vec F (Q4.SAct 28) .bf16 := Q4.copyV (K := 28) (actA m c) (gainA m c)

/-- The output's block at point `t`. -/
def outB (c : Dev nD) (t : Fin cfg0.N) : Vec F Q4.S32x512 .bf16 :=
  Q4.gatedV (Q4.sumS2 (K := 28) (copyA m c) (iblk m c 2 t : Vec F (Q4.SCode 28) .i8) (iblk m c 4 t : Vec F (Q4.SCode 28) .i8)
    (iblk m c 3 t : Vec F (Q4.SScale 28) .bf16) (iblk m c 5 t : Vec F (Q4.SScale 28) .bf16))

/-- What the scratch buffers hold before point `t`. -/
def Track (c : Dev nD) (t : Nat) : sProp 𝕄 :=
  iprop((∃ X : Vec F (Q4.SAct 28) .bf16, ⌜t ≠ 0 → X = copyA m c⌝ ∗ owns (c : Thread nD τ) (Memref.whole cc0_scratch0) fullShare X)
    ∗ (∃ D : Vec F (Q4.SDup 28) .f32, owns (c : Thread nD τ) (Memref.whole cc0_scratch1) fullShare D)
    ∗ (∃ D : Vec F (Q4.SDup 28) .f32, owns (c : Thread nD τ) (Memref.whole cc0_scratch2) fullShare D)
    ∗ ∃ r, prngReg c r)

theorem track_in (c : Dev nD) : (Pipeline.ΦA spec0 c : sProp 𝕄) ⊢ Track m c 0 := by
  unfold Pipeline.ΦA Track
  rw [scopedRest0_eq]
  iintro ⟨⟨⟨%f, H0⟩, ⟨%g, H1⟩, ⟨%g2, H2⟩⟩, Hr⟩
  isplitl [H0]
  · iexists f; isplitr
    · ipureintro; intro h; exact absurd rfl h
    · rw [owns_whole]; iexact H0
  isplitl [H1]
  · iexists g; rw [owns_whole]; iexact H1
  isplitl [H2]
  · iexists g2; rw [owns_whole]; iexact H2
  iexact Hr

theorem track_out (c : Dev nD) (t : Nat) : Track m c t ⊢ (Pipeline.ΦA spec0 c : sProp 𝕄) := by
  unfold Pipeline.ΦA Track
  rw [scopedRest0_eq]
  simp only [owns_whole]
  iintro ⟨⟨%f, %hf, H0⟩, ⟨%g, H1⟩, ⟨%g2, H2⟩, Hr⟩
  isplitr [Hr]
  · isplitl [H0]
    · iexists f; iexact H0
    isplitl [H1]
    · iexists g; iexact H1
    · iexists g2; iexact H2
  iexact Hr

/-- The proof data: each input's buffer at its block after every point, the output's at `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := Track m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The call's buffers at point `t`. -/
abbrev bufs (t : Fin cfg0.N) : Q4.Bufs2 sig 28 :=
  ⟨st0_0 t, st0_1 t, st0_2 t, st0_3 t, st0_4 t, st0_5 t, st0_6 t, Memref.whole cc0_scratch0, Memref.whole cc0_scratch1, Memref.whole cc0_scratch2⟩

/-- Their contents, given the output's, the copy's and the scales' copies. -/
abbrev vals (c : Dev nD) (t : Fin cfg0.N) (O : Vec F Q4.S32x512 .bf16) (X : Vec F (Q4.SAct 28) .bf16) (D0 D1 : Vec F (Q4.SDup 28) .f32) : Q4.Vals2 F 28 :=
  ⟨actA m c, gainA m c, iblk m c 2 t, iblk m c 3 t, iblk m c 4 t, iblk m c 5 t, O, X, D0, D1⟩

/-- The first point is the one the body asks for. -/
theorem first_iff : ∀ t : Fin grid0.N, First (grid0.coords t) ↔ t.val = 0 := by decide

set_option maxHeartbeats 2000000 in
/-- The body at any point leaves the state the proof data say. -/
theorem steps_body (c : Dev nD) (t : Fin cfg0.N) (O : Vec F Q4.S32x512 .bf16) (X : Vec F (Q4.SAct 28) .bf16) (D0 D1 : Vec F (Q4.SDup 28) .f32)
    (hX : t.val ≠ 0 → X = copyA m c) :
    Q4.Steps (defs₀ (F := F)) Variants.none c Set.univ (Q4.St2 c (bufs t) (vals m c t O X D0 D1)) (bodyAt0 t) ⟨⟩
      (Q4.St2 c (bufs t) (vals m c t (outB m c t) (copyA m c) (Q4.dupV (iblk m c 3 t : Vec F (Q4.SScale 28) .bf16))
        (Q4.dupV (iblk m c 5 t : Vec F (Q4.SScale 28) .bf16)))) := by
  by_cases h : t.val = 0
  · rw [show bodyAt0 (F := F) t = _ from body_pos _ _ _ _ _ _ _ _ _ _ _ _ _ _ _ _ _ _ _ _ _ ((first_iff t).mpr h)]
    exact Q4.steps_gate_first (bufs t) (vals m c t O X D0 D1) (by decide) _ _
  · rw [show bodyAt0 (F := F) t = _ from body_neg _ _ _ _ _ _ _ _ _ _ _ _ _ _ _ _ _ _ _ _ _ (fun hc => h ((first_iff t).mp hc))]
    unfold outB
    generalize copyA m c = Y at hX ⊢
    rw [hX h]
    exact Q4.steps_gate (bufs t) (vals m c t O Y D0 D1) (by decide) _

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl,
    show (dats m 0 c).Φ t.succ = Track m c (t.val + 1) from rfl, show (dats m 0 c).Φ t.castSucc = Track m c t.val from rfl,
    after0_0, after0_1, after0_2, after0_3, after0_4, after0_5, after0_6]
  unfold Track
  iintro ⟨⟨⟨%X, %hX, HX⟩, ⟨%D, HD⟩, ⟨%D2, HE⟩, Hr⟩, Ho, ⟨%d0, H0⟩, ⟨%d1, H1⟩, ⟨%d2, H2⟩, ⟨%d3, H3⟩, ⟨%d4, H4⟩, ⟨%d5, H5⟩, ⟨%d6, H6⟩⟩
  iapply (steps_body m c t ((dats m 0 c).before 6 t d6) X D D2 hX _)
  unfold Q4.St2
  isplitl [HX HD HE H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HX]; · iexact HX
    isplitl [HD]; · iexact HD
    iexact HE
  iintro ⟨H0, H1, H2, H3, H4, H5, H6, HX, HD, HE⟩
  isplitl [HX HD HE Hr]
  · isplitl [HX]
    · iexists (copyA m c); isplitr; · ipureintro; intro _; rfl
      iexact HX
    isplitl [HD]; · iexists _; iexact HD
    isplitl [HE]; · iexists _; iexact HE
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every fair execution terminates, the arrays at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in m c) (hout := fun c => track_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: every fair execution terminates and the argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateUp.Run

end
-- ==== Proof.GateBridgeIdeal.lean ====
/-
  The printed body of the gate and up projections, over its parts, is the program of GateFeed.lean.
-/
module

public import proofs.«01_k».proof.Proof.GateFeed
public import proofs.«01_k».proof.Proof.Gen.GateUpIdeal

@[expose] public section

set_option maxRecDepth 65536
set_option maxHeartbeats 0

noncomputable section

namespace Cert.GateUpIdeal.Bridge

open Cert.GateUpIdeal Cert.GateUpIdeal.Gen
open Idealize.ShloMosaic Idealize.ShloMosaic.TcCoe
open Idealize.SL.Sem

variable {F : FTy → Type} [FloatOps F]
variable (i : grid0.Coords) (arg1 : Memref sig .tc .vmem S32x7168 .f32) (harg1 : arg1.IsWhole) (arg2 : Memref sig .tc .vmem S56x128 .bf16) (harg2 : arg2.IsWhole)
  (arg3 : Memref sig .tc .vmem S448x32x128 .i8) (harg3 : arg3.IsWhole) (arg4 : Memref sig .tc .vmem S224x512 .bf16) (harg4 : arg4.IsWhole)
  (arg5 : Memref sig .tc .vmem S448x32x128 .i8) (harg5 : arg5.IsWhole) (arg6 : Memref sig .tc .vmem S224x512 .bf16) (harg6 : arg6.IsWhole)
  (arg7 : Memref sig .tc .vmem S32x512 .bf16) (harg7 : arg7.IsWhole) (arg8 : Memref sig .tc .vmem S32x7168 .bf16) (harg8 : arg8.IsWhole)
  (arg9 : Memref sig .tc .vmem S4x224x128 .f32) (harg9 : arg9.IsWhole) (arg10 : Memref sig .tc .vmem S4x224x128 .f32) (harg10 : arg10.IsWhole)

/-- Is this the first point of the grid? As the body asks it. -/
abbrev First : Prop := Scalar.cmpi .ne (Scalar.extui (Scalar.cmpi .eq (BitVec.ofNat 32 (i 0).val) 0#32) : BitVec 32) 0#32 = 1#1

/-- The load that follows the first matrix's scales. -/
abbrev firstCol : Prog (TpuEff nD τ sig (Elt F) Λ₀ .tc) (Vec F (Q4.SCol 28) .bf16) :=
  Prog.lift (.load arg6 (Rect.unit (s := Q4.SScale 28) ![0, 128 * 0] (Q4.SCol 28).size (Q4.inb_scale (by decide))).toLoadRect (View.loadsAt_vmem (Q4.h_SCol (by decide))))

/-! The first five parts of the copy: the sums of squares, tile by tile. -/

theorem sq1 : (k0_part1 i arg1 harg1 arg2 harg2 arg3 harg3 arg4 harg4 arg5 harg5 arg6 harg6 arg7 harg7 arg8 harg8 arg9 harg9 arg10 harg10 : Prog (TpuEff nD τ sig (Elt F) Λ₀ .tc) _)
    = Q4.sqSome (K := 28) arg1 11 0 11 (by omega) (by omega) (broadcast Q4.S32x128 (Scalar.ofBits .f32 0x00000000#32)) := rfl
theorem sq2 (s : FVec F Q4.S32x128 .f32) (x : Vec F Q4.S32x128 .f32) : (k0_part2 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.sqSome (K := 28) arg1 11 12 23 (by omega) (by omega) (addf s (mulf x x)) := rfl
theorem sq3 (s : FVec F Q4.S32x128 .f32) (x : Vec F Q4.S32x128 .f32) : (k0_part3 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.sqSome (K := 28) arg1 11 24 35 (by omega) (by omega) (addf s (mulf x x)) := rfl
theorem sq4 (s : FVec F Q4.S32x128 .f32) (x : Vec F Q4.S32x128 .f32) : (k0_part4 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.sqSome (K := 28) arg1 11 36 47 (by omega) (by omega) (addf s (mulf x x)) := rfl
theorem sq5 (s : FVec F Q4.S32x128 .f32) (x : Vec F Q4.S32x128 .f32) : (k0_part5 i arg1 harg1 arg2 harg2 arg3 harg3 arg4 harg4 arg5 harg5 arg6 harg6 arg7 harg7 arg8 harg8 arg9 harg9 arg10 harg10 s x : Prog (TpuEff nD τ sig (Elt F) Λ₀ .tc) _)
    = Q4.normHead (K := 28) (by decide) arg1 arg2 8 48 (by omega) (addf s (mulf x x)) := rfl

/-- The part that makes the copy. -/
theorem first_pos (hc : First i) : (k0_part52 i arg1 harg1 arg2 harg2 arg3 harg3 arg4 harg4 arg5 harg5 arg6 harg6 arg7 harg7 arg8 harg8 arg9 harg9 arg10 harg10 : Prog (TpuEff nD τ sig (Elt F) Λ₀ .tc) _)
  = (do
  Q4.normCopy (K := 28) arg1 arg2 arg8 harg8
  Q4.prepScales (K := 28) (by decide) arg4 arg9
  let x ← firstCol arg6
  pure ⟨Mxu.init, shapeCast (Q4.SCol 28) x Q4.casts_col⟩) := by
  unfold k0_part52
  refine (dif_pos hc).trans ?_
  unfold k0_part51 Q4.normCopy
  refine Q4.first_congr (sq1 i arg1 harg1 arg2 harg2 arg3 harg3 arg4 harg4 arg5 harg5 arg6 harg6 arg7 harg7 arg8 harg8 arg9 harg9 arg10 harg10)
    ((bind_assoc _ _ _).trans (Q4.sq_split (K := 28) arg1 44 11 (by omega) 11 0 rfl 56 rfl _ _ _)) ?_
  rintro ⟨s1, x1⟩
  refine Q4.first_congr (sq2 i arg1 harg1 arg2 harg2 arg3 harg3 arg4 harg4 arg5 harg5 arg6 harg6 arg7 harg7 arg8 harg8 arg9 harg9 arg10 harg10 s1 x1)
    (Q4.sq_split (K := 28) arg1 32 23 (by omega) 11 12 rfl 44 rfl _ _ _) ?_
  rintro ⟨s2, x2⟩
  refine Q4.first_congr (sq3 i arg1 harg1 arg2 harg2 arg3 harg3 arg4 harg4 arg5 harg5 arg6 harg6 arg7 harg7 arg8 harg8 arg9 harg9 arg10 harg10 s2 x2)
    (Q4.sq_split (K := 28) arg1 20 35 (by omega) 11 24 rfl 32 rfl _ _ _) ?_
  rintro ⟨s3, x3⟩
  refine Q4.first_congr (sq4 i arg1 harg1 arg2 harg2 arg3 harg3 arg4 harg4 arg5 harg5 arg6 harg6 arg7 harg7 arg8 harg8 arg9 harg9 arg10 harg10 s3 x3)
    (Q4.sq_split (K := 28) arg1 8 47 (by omega) 11 36 rfl 20 rfl _ _ _) ?_
  rintro ⟨s4, x4⟩
  refine Q4.first_congr (sq5 i arg1 harg1 arg2 harg2 arg3 harg3 arg4 harg4 arg5 harg5 arg6 harg6 arg7 harg7 arg8 harg8 arg9 harg9 arg10 harg10 s4 x4)
    ((bind_assoc _ _ _).symm.trans ((congrArg (· >>= _) (Q4.norm_split (K := 28) (by decide) arg1 arg2 arg8 harg8 8 48 55 (by omega) rfl _)).trans (bind_assoc _ _ _))) ?_
  rintro ⟨r, x, g⟩
  rfl

theorem first_neg (hc : ¬ First i) : (k0_part52 i arg1 harg1 arg2 harg2 arg3 harg3 arg4 harg4 arg5 harg5 arg6 harg6 arg7 harg7 arg8 harg8 arg9 harg9 arg10 harg10 : Prog (TpuEff nD τ sig (Elt F) Λ₀ .tc) _)
  = (do
  Q4.prepScales (K := 28) (by decide) arg4 arg9
  let x ← firstCol arg6
  pure ⟨Mxu.init, shapeCast (Q4.SCol 28) x Q4.casts_col⟩) := by
  unfold k0_part52; exact (dif_neg hc).trans rfl

theorem after {α : Type} {P k k' : Prog (TpuEff nD τ sig (Elt F) Λ₀ .tc) α} {pre : Prog (TpuEff nD τ sig (Elt F) Λ₀ .tc) PUnit}
    (h : (pre >>= fun _ => k) = P) (hk : k = k') : P = (pre >>= fun _ => k') := hk ▸ h.symm

/-- The body after whatever comes before the scales' copies. -/
theorem body_after (pre : Prog (TpuEff nD τ sig (Elt F) Λ₀ .tc) PUnit)
    (h : (k0_part52 i arg1 harg1 arg2 harg2 arg3 harg3 arg4 harg4 arg5 harg5 arg6 harg6 arg7 harg7 arg8 harg8 arg9 harg9 arg10 harg10 : Prog (TpuEff nD τ sig (Elt F) Λ₀ .tc) _)
      = (do
        pre
        Q4.prepScales (K := 28) (by decide) arg4 arg9
        let x ← firstCol arg6
        pure ⟨Mxu.init, shapeCast (Q4.SCol 28) x Q4.casts_col⟩)) :
    (cc0_gate_up i arg1 harg1 arg2 harg2 arg3 harg3 arg4 harg4 arg5 harg5 arg6 harg6 arg7 harg7 arg8 harg8 arg9 harg9 arg10 harg10 : Prog (TpuEff nD τ sig (Elt F) Λ₀ .tc) PUnit)
      = (pre >>= fun _ => Q4.gateBody (K := 28) (by decide) arg3 arg4 arg5 arg6 arg7 harg7 arg8 arg9 arg10) := by
  unfold cc0_gate_up k0_part623 Q4.gateBody
  rw [h]
  refine (bind_assoc _ _ _).trans ((bind_assoc _ _ _).trans (congrArg (pre >>= ·) (funext fun _ => ?_)))
  refine after rfl ?_
  refine after rfl ?_
  iterate 28
    (refine Q4.act_congr (F := F) (K := 28) arg8 arg3 arg5 arg9 arg10 rfl rfl ?_
     intro x
     refine Q4.feed_congr (F := F) (K := 28) arg3 arg9 _ _ 0 0 Q4.fits rfl rfl ?_
     intros
     rename_i s' hs
     generalize hE : Mxu.pushed (F := F) (φ := .bf16) _ 1 _ _ _ = t
     obtain rfl : t = s' := hE.symm.trans hs
     clear hE hs
     refine Q4.feed_congr (F := F) (K := 28) arg5 arg10 _ _ 1 8 Q4.fits8 rfl rfl ?_
     intros
     rename_i s' hs
     generalize hE : Mxu.pushed (F := F) (φ := .bf16) _ 1 _ _ _ = t
     obtain rfl : t = s' := hE.symm.trans hs
     clear hE hs)
  rfl

theorem body_neg (hc : ¬ First i) :
    (cc0_gate_up i arg1 harg1 arg2 harg2 arg3 harg3 arg4 harg4 arg5 harg5 arg6 harg6 arg7 harg7 arg8 harg8 arg9 harg9 arg10 harg10 : Prog (TpuEff nD τ sig (Elt F) Λ₀ .tc) PUnit)
      = Q4.gateBody (K := 28) (by decide) arg3 arg4 arg5 arg6 arg7 harg7 arg8 arg9 arg10 :=
  body_after i arg1 harg1 arg2 harg2 arg3 harg3 arg4 harg4 arg5 harg5 arg6 harg6 arg7 harg7 arg8 harg8 arg9 harg9 arg10 harg10 (pure ⟨⟩) (first_neg i arg1 harg1 arg2 harg2 arg3 harg3 arg4 harg4 arg5 harg5 arg6 harg6 arg7 harg7 arg8 harg8 arg9 harg9 arg10 harg10 hc)

theorem body_pos (hc : First i) :
    (cc0_gate_up i arg1 harg1 arg2 harg2 arg3 harg3 arg4 harg4 arg5 harg5 arg6 harg6 arg7 harg7 arg8 harg8 arg9 harg9 arg10 harg10 : Prog (TpuEff nD τ sig (Elt F) Λ₀ .tc) PUnit)
      = (Q4.normCopy (K := 28) arg1 arg2 arg8 harg8 >>= fun _ =>
          Q4.gateBody (K := 28) (by decide) arg3 arg4 arg5 arg6 arg7 harg7 arg8 arg9 arg10) :=
  body_after i arg1 harg1 arg2 harg2 arg3 harg3 arg4 harg4 arg5 harg5 arg6 harg6 arg7 harg7 arg8 harg8 arg9 harg9 arg10 harg10 (Q4.normCopy (K := 28) arg1 arg2 arg8 harg8) (first_pos i arg1 harg1 arg2 harg2 arg3 harg3 arg4 harg4 arg5 harg5 arg6 harg6 arg7 harg7 arg8 harg8 arg9 harg9 arg10 harg10 hc)

end Cert.GateUpIdeal.Bridge

end
-- ==== Proof.GateFrameIdeal.lean ====
/-
  The run of the gate and up projections: what each grid point leaves in its windows, the invariant the scratch buffers keep (after
  the first point the normalised activations), the body's obligation, the launch, and the frame.
-/
module

public import proofs.«01_k».proof.Proof.GateBridgeIdeal
public import proofs.«01_k».proof.Proof.GateRun
public import proofs.«01_k».proof.Proof.Gen.GateUpIdeal.Frame

@[expose] public section

set_option maxRecDepth 16384

noncomputable section

namespace Cert.GateUpIdeal.Run

open Cert.GateUpIdeal Cert.GateUpIdeal.Gen Cert.GateUpIdeal.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0_0 : Fin cfg0.N := ⟨0, by decide⟩

/-- The activations and the gain, whole at every grid point. -/
abbrev actA (c : Dev nD) : Vec F (Q4.SAct 28) .f32 := iblk m c 0 t0_0
abbrev gainA (c : Dev nD) : Vec F (Q4.SGain 28) .bf16 := iblk m c 1 t0_0

theorem iblk0 (c : Dev nD) (t : Fin cfg0.N) : iblk m c 0 t = actA m c := rfl
theorem iblk1 (c : Dev nD) (t : Fin cfg0.N) : iblk m c 1 t = gainA m c := rfl

/-- The normalised activations' copy. -/
def copyA (c : Dev nD) : Vec F (Q4.SAct 28) .bf16 := Q4.copyV (K := 28) (actA m c) (gainA m c)

/-- The output's block at point `t`. -/
def outB (c : Dev nD) (t : Fin cfg0.N) : Vec F Q4.S32x512 .bf16 :=
  Q4.gatedV (Q4.sumS2 (K := 28) (copyA m c) (iblk m c 2 t : Vec F (Q4.SCode 28) .i8) (iblk m c 4 t : Vec F (Q4.SCode 28) .i8)
    (iblk m c 3 t : Vec F (Q4.SScale 28) .bf16) (iblk m c 5 t : Vec F (Q4.SScale 28) .bf16))

/-- What the scratch buffers hold before point `t`. -/
def Track (c : Dev nD) (t : Nat) : sProp 𝕄 :=
  iprop((∃ X : Vec F (Q4.SAct 28) .bf16, ⌜t ≠ 0 → X = copyA m c⌝ ∗ owns (c : Thread nD τ) (Memref.whole cc0_scratch0) fullShare X)
    ∗ (∃ D : Vec F (Q4.SDup 28) .f32, owns (c : Thread nD τ) (Memref.whole cc0_scratch1) fullShare D)
    ∗ (∃ D : Vec F (Q4.SDup 28) .f32, owns (c : Thread nD τ) (Memref.whole cc0_scratch2) fullShare D)
    ∗ ∃ r, prngReg c r)

theorem track_in (c : Dev nD) : (Pipeline.ΦA spec0 c : sProp 𝕄) ⊢ Track m c 0 := by
  unfold Pipeline.ΦA Track
  rw [scopedRest0_eq]
  iintro ⟨⟨⟨%f, H0⟩, ⟨%g, H1⟩, ⟨%g2, H2⟩⟩, Hr⟩
  isplitl [H0]
  · iexists f; isplitr
    · ipureintro; intro h; exact absurd rfl h
    · rw [owns_whole]; iexact H0
  isplitl [H1]
  · iexists g; rw [owns_whole]; iexact H1
  isplitl [H2]
  · iexists g2; rw [owns_whole]; iexact H2
  iexact Hr

theorem track_out (c : Dev nD) (t : Nat) : Track m c t ⊢ (Pipeline.ΦA spec0 c : sProp 𝕄) := by
  unfold Pipeline.ΦA Track
  rw [scopedRest0_eq]
  simp only [owns_whole]
  iintro ⟨⟨%f, %hf, H0⟩, ⟨%g, H1⟩, ⟨%g2, H2⟩, Hr⟩
  isplitr [Hr]
  · isplitl [H0]
    · iexists f; iexact H0
    isplitl [H1]
    · iexists g; iexact H1
    · iexists g2; iexact H2
  iexact Hr

/-- The proof data: each input's buffer at its block after every point, the output's at `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := Track m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The call's buffers at point `t`. -/
abbrev bufs (t : Fin cfg0.N) : Q4.Bufs2 sig 28 :=
  ⟨st0_0 t, st0_1 t, st0_2 t, st0_3 t, st0_4 t, st0_5 t, st0_6 t, Memref.whole cc0_scratch0, Memref.whole cc0_scratch1, Memref.whole cc0_scratch2⟩

/-- Their contents, given the output's, the copy's and the scales' copies. -/
abbrev vals (c : Dev nD) (t : Fin cfg0.N) (O : Vec F Q4.S32x512 .bf16) (X : Vec F (Q4.SAct 28) .bf16) (D0 D1 : Vec F (Q4.SDup 28) .f32) : Q4.Vals2 F 28 :=
  ⟨actA m c, gainA m c, iblk m c 2 t, iblk m c 3 t, iblk m c 4 t, iblk m c 5 t, O, X, D0, D1⟩

/-- The first point is the one the body asks for. -/
theorem first_iff : ∀ t : Fin grid0.N, First (grid0.coords t) ↔ t.val = 0 := by decide

set_option maxHeartbeats 2000000 in
/-- The body at any point leaves the state the proof data say. -/
theorem steps_body (c : Dev nD) (t : Fin cfg0.N) (O : Vec F Q4.S32x512 .bf16) (X : Vec F (Q4.SAct 28) .bf16) (D0 D1 : Vec F (Q4.SDup 28) .f32)
    (hX : t.val ≠ 0 → X = copyA m c) :
    Q4.Steps (defs₀ (F := F)) Variants.none c Set.univ (Q4.St2 c (bufs t) (vals m c t O X D0 D1)) (bodyAt0 t) ⟨⟩
      (Q4.St2 c (bufs t) (vals m c t (outB m c t) (copyA m c) (Q4.dupV (iblk m c 3 t : Vec F (Q4.SScale 28) .bf16))
        (Q4.dupV (iblk m c 5 t : Vec F (Q4.SScale 28) .bf16)))) := by
  by_cases h : t.val = 0
  · rw [show bodyAt0 (F := F) t = _ from body_pos _ _ _ _ _ _ _ _ _ _ _ _ _ _ _ _ _ _ _ _ _ ((first_iff t).mpr h)]
    exact Q4.steps_gate_first (bufs t) (vals m c t O X D0 D1) (by decide) _ _
  · rw [show bodyAt0 (F := F) t = _ from body_neg _ _ _ _ _ _ _ _ _ _ _ _ _ _ _ _ _ _ _ _ _ (fun hc => h ((first_iff t).mp hc))]
    unfold outB
    generalize copyA m c = Y at hX ⊢
    rw [hX h]
    exact Q4.steps_gate (bufs t) (vals m c t O Y D0 D1) (by decide) _

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl,
    show (dats m 0 c).Φ t.succ = Track m c (t.val + 1) from rfl, show (dats m 0 c).Φ t.castSucc = Track m c t.val from rfl,
    after0_0, after0_1, after0_2, after0_3, after0_4, after0_5, after0_6]
  unfold Track
  iintro ⟨⟨⟨%X, %hX, HX⟩, ⟨%D, HD⟩, ⟨%D2, HE⟩, Hr⟩, Ho, ⟨%d0, H0⟩, ⟨%d1, H1⟩, ⟨%d2, H2⟩, ⟨%d3, H3⟩, ⟨%d4, H4⟩, ⟨%d5, H5⟩, ⟨%d6, H6⟩⟩
  iapply (steps_body m c t ((dats m 0 c).before 6 t d6) X D D2 hX _)
  unfold Q4.St2
  isplitl [HX HD HE H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HX]; · iexact HX
    isplitl [HD]; · iexact HD
    iexact HE
  iintro ⟨H0, H1, H2, H3, H4, H5, H6, HX, HD, HE⟩
  isplitl [HX HD HE Hr]
  · isplitl [HX]
    · iexists (copyA m c); isplitr; · ipureintro; intro _; rfl
      iexact HX
    isplitl [HD]; · iexists _; iexact HD
    isplitl [HE]; · iexists _; iexact HE
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every fair execution terminates, the arrays at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in m c) (hout := fun c => track_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: every fair execution terminates and the argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateUpIdeal.Run

end
-- ==== Proof.GateTotal.lean ====
/-
  The gate and up projections at an element, over the extended reals: the two sums each unit holds, the norm's sum of squares, and the
  output in terms of them.
-/
module

public import proofs.«01_k».proof.Proof.GateRun
public import proofs.«01_k».proof.Proof.Total

@[expose] public section

set_option maxRecDepth 16384

noncomputable section

namespace Cert.Q4

open Idealize.ShloMosaic

variable {K : Nat}

/-! ## The two sums -/

section Sums
variable (H : Vec Ideal (SAct K) .bf16) (C0 C1 : Vec Ideal (SCode K) .i8) (D0 D1 : Vec Ideal (SDup K) .f32)

/-- The last `n` blocks add to each sum of a unit its matrix's products. -/
theorem held_runS2 (q : Fin 2) (i : Fin 32) (c : Fin 256) : (n : Nat) → (hn : n ≤ K) → (s : Mxu Ideal) → Empty s →
    held (runS2 H C0 C1 D0 D1 n hn s) q 0 fits i c = held s q 0 fits i c + ∑ j ∈ Finset.range n, blockSum H C0 D0 q i c (K - n + j)
    ∧ held (runS2 H C0 C1 D0 D1 n hn s) q 8 fits8 i c = held s q 8 fits8 i c + ∑ j ∈ Finset.range n, blockSum H C1 D1 q i c (K - n + j)
  | 0, _, s, _ => by simp [runS2]
  | n + 1, hn, s, hs => by
    have ih := held_runS2 q i c n (by omega) _ ((hs.stepS 0 0 fits (actV H (K - (n + 1)) (by omega)) (tilesV C0 D0 (K - (n + 1)) (by omega))).stepS 1 8 fits8
      (actV H (K - (n + 1)) (by omega)) (tilesV C1 D1 (K - (n + 1)) (by omega)))
    have sums : ∀ (C : Vec Ideal (SCode K) .i8) (D : Vec Ideal (SDup K) .f32) (h : EReal),
        h + (∑ k : Fin 256, (actV H (K - (n + 1)) (by omega) (ix2 i k) : EReal) * pick (tilesV C D (K - (n + 1)) (by omega)) q (ix2 k c))
          + ∑ j ∈ Finset.range n, blockSum H C D q i c (K - n + j) = h + ∑ j ∈ Finset.range (n + 1), blockSum H C D q i c (K - (n + 1) + j) := by
      intro C D h
      rw [Finset.sum_range_succ', add_assoc]
      congr 1
      rw [add_comm]
      congr 1
      · refine Finset.sum_congr rfl fun j _ => ?_
        rw [show K - n + j = K - (n + 1) + (j + 1) by omega]
      · exact ((dif_pos (show K - (n + 1) < K by omega)).symm : _ = blockSum H C D q i c (K - (n + 1)))
    rw [runS2]
    constructor
    · rw [ih.1, held_stepS_ne _ _ _ _ _ _ (.inl (by decide)), held_stepS _ hs]
      exact sums _ _ _
    · rw [ih.2, held_stepS _ (hs.stepS _ _ _ _ _), held_stepS_ne _ _ _ _ _ _ (.inr (by decide))]
      exact sums _ _ _

/-- A live row stays live. -/
theorem live_keep (s : Mxu Ideal) (r : Fin 2) (A : Nat) (hA : Mxu.Fits A 32) (x : FVec Ideal S32x256 .bf16)
    (t : FVec Ideal S256x256 .bf16 × FVec Ideal S256x256 .bf16) (q : Fin 2) (R : Fin 1024) (h : s.live q R = true) : (stepS s r A hA x t).live q R = true := by
  unfold stepS fed
  rw [Mxu.live_accLhs, Mxu.live_pushed, Mxu.live_accLhs, Mxu.live_pushed, h]
  simp

theorem live_runS2 (q : Fin 2) (R : Fin 1024) : (n : Nat) → (hn : n ≤ K) → (s : Mxu Ideal) → s.live q R = true →
    (runS2 H C0 C1 D0 D1 n hn s).live q R = true
  | 0, _, s, h => h
  | n + 1, hn, s, h => by
    rw [runS2]
    exact live_runS2 q R n (by omega) _ (live_keep _ _ _ _ _ _ _ _ (live_keep _ _ _ _ _ _ _ _ h))

theorem live_sum2 (hK : 0 < K) (q : Fin 2) (i : Fin 32) :
    (runS2 H C0 C1 D0 D1 K (Nat.le_refl K) Mxu.init).live q (Mxu.row fits i) = true
    ∧ (runS2 H C0 C1 D0 D1 K (Nat.le_refl K) Mxu.init).live q (Mxu.row fits8 i) = true := by
  obtain ⟨n, rfl⟩ : ∃ n, K = n + 1 := ⟨K - 1, by omega⟩
  rw [runS2]
  exact ⟨live_runS2 _ _ _ _ _ q _ n (by omega) _ (live_keep _ _ _ _ _ _ _ _ (live_stepS _ _ _ _ _ _ _ _)),
    live_runS2 _ _ _ _ _ q _ n (by omega) _ (live_stepS _ _ _ _ _ _ _ _)⟩

/-- After all blocks each unit holds both sums of products. -/
theorem acc_sumS2 (hK : 0 < K) (S0 S1 : Vec Ideal (SScale K) .bf16) (q : Fin 2) (i : Fin 32) (c : Fin 256) :
    (sumS2 H C0 C1 S0 S1).read q 0 fits (ix2 i c) = (∑ kt ∈ Finset.range K, blockSum H C0 (dupV S0) q i c kt : EReal)
    ∧ (sumS2 H C0 C1 S0 S1).read q 8 fits8 (ix2 i c) = (∑ kt ∈ Finset.range K, blockSum H C1 (dupV S1) q i c kt : EReal) := by
  have h := held_runS2 H C0 C1 (dupV S0) (dupV S1) q i c K (Nat.le_refl K) Mxu.init (fun _ _ => rfl)
  have hl := live_sum2 H C0 C1 (dupV S0) (dupV S1) hK q i
  rw [held, hl.1, if_pos rfl, held, Mxu.live_init, if_neg (by decide), zero_add, Nat.sub_self, held, hl.2, if_pos rfl, held, Mxu.live_init, if_neg (by decide), zero_add] at h
  simp only [Nat.zero_add] at h
  exact h

end Sums

/-- The gated product of two sums. -/
def gate (g u : EReal) : EReal := g * (FloatOps.logistic (F := Ideal) (φ := .f32) g : EReal) * u

/-- The output block at an element. -/
theorem gatedV_apply (hK : 0 < K) (A : Vec Ideal (SAct K) .bf16) (C0 C1 : Vec Ideal (SCode K) .i8) (S0 S1 : Vec Ideal (SScale K) .bf16) (i : Fin 32) (n : Fin 512) :
    gatedV (sumS2 (reordV A) C0 C1 S0 S1) (ix2 i n) = gate (∑ k ∈ Finset.range (256 * K), term A C0 S0 i n k) (∑ k ∈ Finset.range (256 * K), term A C1 S1 i n k) := by
  have h := acc_sumS2 (reordV A) C0 C1 hK S0 S1 ⟨n.val / 256, by omega⟩ i ⟨n.val % 256, by omega⟩
  rw [Finset.sum_congr rfl fun kt hkt => blockSum_eq A C0 S0 i n kt (Finset.mem_range.mp hkt), sum_blocks,
    Finset.sum_congr rfl fun kt hkt => blockSum_eq A C1 S1 i n kt (Finset.mem_range.mp hkt), sum_blocks] at h
  rw [← h.1, ← h.2]
  unfold gatedV gated
  rw [Mxu.read_pop_ne _ _ _ _ _ _ _ (by simp)]
  rfl

/-! ## The norm -/

/-- The square at column `k`. -/
def sq (X : Vec Ideal (SAct K) .f32) (i : Fin 32) (k : Nat) : EReal :=
  if h : k < 256 * K then (X (ix2 i (⟨k, h⟩ : Fin (256 * K))) : EReal) * X (ix2 i (⟨k, h⟩ : Fin (256 * K))) else 0

theorem sqV_apply (X : Vec Ideal (SAct K) .f32) (i : Fin 32) (l : Fin 128) : (n t : Nat) → (ht : t + n ≤ 2 * K) → (s : FVec Ideal S32x128 .f32) →
    sqV X n t ht s (ix2 i l) = (s (ix2 i l) + ∑ j ∈ Finset.range n, sq X i (128 * (t + j) + l.val) : EReal)
  | 0, t, ht, s => by simp [sqV]
  | n + 1, t, ht, s => by
    rw [sqV, sqV_apply X i l n (t + 1) (by omega), Finset.sum_range_succ', ← add_comm (sq X i (128 * (t + 0) + l.val)), ← add_assoc]
    refine congrArg₂ (fun a b : EReal => a + b) (congrArg (fun b : EReal => s (ix2 i l) + b) ?_) (Finset.sum_congr rfl fun j _ => ?_)
    · rw [sq, dif_pos (by omega)]
      have e : (at_ X (Rect.unit (s := SAct K) ![0, 128 * t] S32x128.size (inb_lane (by omega))).toLoadRect (ix2 i l) : EReal)
          = X (ix2 i (⟨128 * (t + 0) + l.val, by omega⟩ : Fin (256 * K))) := by
        refine congrArg X (funext fun a => ?_)
        match a with
        | 0 => exact Fin.ext (show 0 + 1 * i.val = i.val by omega)
        | 1 => exact Fin.ext (show 128 * t + 1 * l.val = 128 * (t + 0) + l.val by omega)
      rw [← e]
      rfl
    · rw [show t + 1 + j = t + (j + 1) by omega]

/-- The scale of row `i`: one over the root of the mean of its squares, plus a small number. -/
def rowInv (z : EReal) : EReal :=
  FloatOps.rsqrt (F := Ideal) (φ := .f32) (FloatOps.addf (FloatOps.divf z (Ideal.ofBits .f32 0x45E00000#32)) (Ideal.ofBits .f32 0x358637BD#32))

theorem scaleV_apply (X : Vec Ideal (SAct K) .f32) (i : Fin 32) : scaleV X (ix2 i 0) = rowInv (∑ k ∈ Finset.range (256 * K), sq X i k) := by
  unfold scaleV rowScale
  generalize hs : sqV X _ _ _ _ = s
  pointwise
  refine Eq.trans (b := rowInv (∑ l : Fin 128, (s (ix2 i l) : EReal))) rfl (congrArg rowInv ?_)
  have e : ∀ l : Fin 128, (s (ix2 i l) : EReal) = ∑ j ∈ Finset.range (2 * K), sq X i (128 * j + l.val) := fun l => by
    rw [← hs, sqV_apply, show (broadcast S32x128 (Scalar.ofBits .f32 0x00000000#32) : FVec Ideal S32x128 .f32) (ix2 i l) = (0 : EReal) by pointwise, zero_add]
    simp only [Nat.zero_add]
  rw [Finset.sum_congr rfl fun l _ => e l, Finset.sum_comm, show 256 * K = 128 * (2 * K) by omega, ← sum_blocks 128 _ (2 * K)]
  exact Finset.sum_congr rfl fun j _ => (Finset.sum_range fun l => sq X i (128 * j + l)).symm

theorem normTile_apply (x : Vec Ideal S32x128 .f32) (r : FVec Ideal S32x1 .f32) (g : Vec Ideal S1x128 .bf16) (i : Fin 32) (l : Fin 128) :
    normTile x r g (ix2 i l) = (x (ix2 i l) * r (ix2 i 0) * g (ix2 0 l) : EReal) := by
  unfold normTile
  pointwise

/-- The normalised activations at an element. -/
theorem normV_apply (X : Vec Ideal (SAct K) .f32) (G : Vec Ideal (SGain K) .bf16) (i : Fin 32) (k : Fin (256 * K)) :
    normV X G (scaleV X) (ix2 i k) = (X (ix2 i k) * rowInv (∑ k ∈ Finset.range (256 * K), sq X i k)
      * G (ix2 (⟨k.val / 128, by omega⟩ : Fin (2 * K)) (⟨k.val % 128, by omega⟩ : Fin 128)) : EReal) := by
  refine (normTile_apply _ _ _ _ _).trans (congrArg₂ (fun a b : EReal => a * b) (congrArg₂ (fun a b : EReal => a * b) ?_ (scaleV_apply X i)) ?_)
  · refine congrArg X (funext fun a => ?_)
    match a with
    | 0 => exact Fin.ext (show 0 + 1 * i.val = i.val by omega)
    | 1 => exact Fin.ext (show 128 * (k.val / 128) + 1 * (k.val % 128) = k.val by omega)
  · refine congrArg G (funext fun a => ?_)
    match a with
    | 0 => exact Fin.ext (show k.val / 128 + 1 * 0 = k.val / 128 by omega)
    | 1 => exact Fin.ext (show 0 + 1 * (k.val % 128) = k.val % 128 by omega)

end Cert.Q4

end
-- ==== Proof.GateResult.lean ====
/-
  The gate and up projections' result as a function of the arguments, over the extended reals.
-/
module

public import proofs.«01_k».proof.GateUpIdeal
public import proofs.«01_k».proof.Proof.GateTotal

@[expose] public section

noncomputable section

namespace Cert.GateUpIdeal.Run

open Cert.GateUpIdeal Idealize.ShloMosaic

/-- The normalised activations: times one over the root of the row's mean square plus a small number, times the gain. -/
def norm (X : Vec Ideal S32x7168 .f32) (Gn : Vec Ideal S7168 .bf16) : Vec Ideal S32x7168 .bf16 := fun y =>
  (X (ix2 (y 0 : Fin 32) (y 1 : Fin 7168)) * Q4.rowInv (∑ k ∈ Finset.range 7168, Q4.sq (K := 28) X (y 0) k) * Gn (ix1 (y 1 : Fin 7168)) : EReal)

/-- Position `k`'s product for row `i` and column `n`: nibble `k % 2` of code `k % 32 / 2` of group `k / 32`, less eight, times the
    group's scale, times the activation that the nibble stands at. -/
def prod (A : Vec Ideal S32x7168 .bf16) (C : Vec Ideal S10240x224x16 .i8) (S : Vec Ideal S10240x224 .bf16) (i : Fin 32) (n : Fin 10240) (k : Nat) : EReal :=
  if h : k < 7168 then
    (A (ix2 i (⟨Q4.src k, Q4.src_lt (K := 28) h⟩ : Fin 7168)) : EReal)
      * (Q4.nib (C (ix3 n (⟨k / 32, by omega⟩ : Fin 224) (⟨k % 32 / 2, by omega⟩ : Fin 16))) (k % 2) * S (ix2 n (⟨k / 32, by omega⟩ : Fin 224)))
  else 0

/-- All products of row `i` and column `n`. -/
def total (A : Vec Ideal S32x7168 .bf16) (C : Vec Ideal S10240x224x16 .i8) (S : Vec Ideal S10240x224 .bf16) (i : Fin 32) (n : Fin 10240) : EReal :=
  ∑ k ∈ Finset.range 7168, prod A C S i n k

/-- The gate matrix's products through the gate, times the up matrix's. -/
def G (X : Vec Ideal S32x7168 .f32) (Gn : Vec Ideal S7168 .bf16) (C0 : Vec Ideal S10240x224x16 .i8) (S0 : Vec Ideal S10240x224 .bf16)
    (C1 : Vec Ideal S10240x224x16 .i8) (S1 : Vec Ideal S10240x224 .bf16) : Vec Ideal S32x10240 .bf16 := fun y =>
  Q4.gate (total (norm X Gn) C0 S0 (y 0) (y 1)) (total (norm X Gn) C1 S1 (y 0) (y 1))

end Cert.GateUpIdeal.Run

end
-- ==== Proof.GateOutput.lean ====
/-
  What the gate and up kernel leaves in its result, over the extended reals, in terms of its arguments.
-/
module

public import proofs.«01_k».proof.Proof.GateFrameIdeal
public import proofs.«01_k».proof.Proof.GateResult
public import Idealize.ShloMosaic.Lib.Pipeline.ValueKit.Point
public import Idealize.ShloMosaic.Lib.StableHlo.ReadAt

@[expose] public section

set_option maxRecDepth 16384

noncomputable section

namespace Cert.GateUpIdeal.Run

open Cert.GateUpIdeal Cert.GateUpIdeal.Gen Idealize.ShloMosaic Idealize.ShloMosaic.TcCoe Idealize.SL.Sem Idealize.ShloMosaic.Pipeline

variable (m : (ℓ : Loc nD τ sig) → Buf (Elt Ideal) ℓ) (c : Dev nD) (t : Fin cfg0.N)

theorem idx : ∀ t : Fin cfg0.N, (cfg0.win 2).index t = ![0, t.val, 0] ∧ (cfg0.win 3).index t = ![0, t.val] ∧ (cfg0.win 4).index t = ![0, t.val, 0]
    ∧ (cfg0.win 5).index t = ![0, t.val] ∧ (cfg0.win 6).index t = ![0, t.val] ∧ (cfg0.win 0).index t0_0 = ![0, 0] ∧ (cfg0.win 1).index t0_0 = ![0, 0] := by
  decide

theorem t_lt (t : Fin cfg0.N) : t.val < 20 := t.isLt

/-! ## The blocks in terms of the arguments -/

/-- A block of a matrix's codes holds the codes of its columns. -/
def CodesOf (B : Vec Ideal (Q4.SCode 28) .i8) (C : Vec Ideal S10240x224x16 .i8) (t : Nat) (ht : t < 20) : Prop :=
  ∀ (r : Fin 448) (a : Fin 32) (l : Fin 128),
    B (ix3 r a l) = C (ix3 (⟨512 * t + 128 * (a.val / 8) + l.val, by omega⟩ : Fin 10240) (⟨r.val / 2, by omega⟩ : Fin 224)
      (⟨8 * (r.val % 2) + a.val % 8, by omega⟩ : Fin 16))

/-- A block of a matrix's scales holds the scales of its columns. -/
def ScalesOf (B : Vec Ideal (Q4.SScale 28) .bf16) (S : Vec Ideal S10240x224 .bf16) (t : Nat) (ht : t < 20) : Prop :=
  ∀ (g : Fin 224) (n : Fin 512), B (ix2 g n) = S (ix2 (⟨512 * t + n.val, by omega⟩ : Fin 10240) g)

/-- The gate codes' block, through the host's two transposes and reshapes. -/
theorem codes_gate : CodesOf (iblk m c 2 t : Vec Ideal (Q4.SCode 28) .i8) (m ((c.tc : Thread nD τ).loc main_arg2)) t.val (t_lt t) := by
  intro r a l
  have ht := t_lt t
  have e : (iblk m c 2 t : Vec Ideal (Q4.SCode 28) .i8) (ix3 r a l) = V m c main_v4 (ix3 r (⟨32 * t.val + a.val, by omega⟩ : Fin 640) l) := by
    blk_ext [iblk, idx t]
  rw [e]
  after_reads_at
  refine congrArg (m (c, Proc.tc.devRef main_arg2)) ?_
  simp only [show (32 * t.val + a.val) / 8 * 128 + l.val = 512 * t.val + 128 * (a.val / 8) + l.val by omega,
    show r.val % 2 * 8 + (32 * t.val + a.val) % 8 = 8 * (r.val % 2) + a.val % 8 by omega]

/-- The up codes' block. -/
theorem codes_up : CodesOf (iblk m c 4 t : Vec Ideal (Q4.SCode 28) .i8) (m ((c.tc : Thread nD τ).loc main_arg4)) t.val (t_lt t) := by
  intro r a l
  have ht := t_lt t
  have e : (iblk m c 4 t : Vec Ideal (Q4.SCode 28) .i8) (ix3 r a l) = V m c main_v9 (ix3 r (⟨32 * t.val + a.val, by omega⟩ : Fin 640) l) := by
    blk_ext [iblk, idx t]
  rw [e]
  after_reads_at
  refine congrArg (m (c, Proc.tc.devRef main_arg4)) ?_
  simp only [show (32 * t.val + a.val) / 8 * 128 + l.val = 512 * t.val + 128 * (a.val / 8) + l.val by omega,
    show r.val % 2 * 8 + (32 * t.val + a.val) % 8 = 8 * (r.val % 2) + a.val % 8 by omega]

/-- The gate scales' block, through the host's transpose. -/
theorem scales_gate : ScalesOf (iblk m c 3 t : Vec Ideal (Q4.SScale 28) .bf16) (m ((c.tc : Thread nD τ).loc main_arg3)) t.val (t_lt t) := by
  intro g n
  have ht := t_lt t
  have e : (iblk m c 3 t : Vec Ideal (Q4.SScale 28) .bf16) (ix2 g n) = V m c main_v5 (ix2 g (⟨512 * t.val + n.val, by omega⟩ : Fin 10240)) := by
    blk_ext [iblk, idx t]
  rw [e]
  after_reads_at

/-- The up scales' block. -/
theorem scales_up : ScalesOf (iblk m c 5 t : Vec Ideal (Q4.SScale 28) .bf16) (m ((c.tc : Thread nD τ).loc main_arg5)) t.val (t_lt t) := by
  intro g n
  have ht := t_lt t
  have e : (iblk m c 5 t : Vec Ideal (Q4.SScale 28) .bf16) (ix2 g n) = V m c main_v10 (ix2 g (⟨512 * t.val + n.val, by omega⟩ : Fin 10240)) := by
    blk_ext [iblk, idx t]
  rw [e]
  after_reads_at

/-- The activations, whole. -/
theorem act_at (i : Fin 32) (k : Fin 7168) :
    (actA m c : Vec Ideal (Q4.SAct 28) .f32) (ix2 i k) = m ((c.tc : Thread nD τ).loc main_arg0) (ix2 i k) := by
  blk_ext [actA, iblk, V, idx t0_0]

/-- The gain, whole, through the host's reshape. -/
theorem gain_at (a : Fin 56) (l : Fin 128) :
    (gainA m c : Vec Ideal (Q4.SGain 28) .bf16) (ix2 a l) = m ((c.tc : Thread nD τ).loc main_arg1) (ix1 (⟨128 * a.val + l.val, by omega⟩ : Fin 7168)) := by
  have e : (gainA m c : Vec Ideal (Q4.SGain 28) .bf16) (ix2 a l) = V m c main_v0 (ix2 a l) := by
    blk_ext [gainA, iblk, idx t0_0]
  rw [e]
  after_reads_at
  refine congrArg (m (c, Proc.tc.devRef main_arg1)) ?_
  simp only [show a.val * 128 + l.val = 128 * a.val + l.val by omega]

/-- The activations as one function. -/
theorem act_eq : (actA m c : Vec Ideal (Q4.SAct 28) .f32) = m ((c.tc : Thread nD τ).loc main_arg0) := by
  funext y
  obtain ⟨i, k, rfl⟩ : ∃ (i : Fin 32) (k : Fin 7168), y = ix2 i k := ⟨y 0, y 1, eq_ix2 y⟩
  exact act_at m c i k

/-- The kernel's normalised activations. -/
theorem norm_at (i : Fin 32) (k : Fin 7168) :
    Q4.normV (K := 28) (actA m c) (gainA m c) (Q4.scaleV (actA m c)) (ix2 i k)
      = norm (m ((c.tc : Thread nD τ).loc main_arg0)) (m ((c.tc : Thread nD τ).loc main_arg1)) (ix2 i k) := by
  refine (Q4.normV_apply (K := 28) (actA m c) (gainA m c) i k).trans ?_
  rw [act_eq m c, gain_at m c]
  simp only [show 128 * (k.val / 128) + k.val % 128 = k.val by omega]
  rfl

/-! ## The output -/

/-- A block's term is the product of its column of the array. -/
theorem term_eq (A : Vec Ideal (Q4.SAct 28) .bf16) (A' : Vec Ideal S32x7168 .bf16) (hA : ∀ (i : Fin 32) (k : Fin 7168), A (ix2 i k) = A' (ix2 i k))
    (B : Vec Ideal (Q4.SCode 28) .i8) (C : Vec Ideal S10240x224x16 .i8) (D : Vec Ideal (Q4.SScale 28) .bf16) (S : Vec Ideal S10240x224 .bf16)
    (t : Nat) (ht : t < 20) (hC : CodesOf B C t ht) (hS : ScalesOf D S t ht) (i : Fin 32) (n : Fin 512) (k : Nat) :
    Q4.term (K := 28) A B D i n k = prod A' C S i ⟨512 * t + n.val, by omega⟩ k := by
  unfold Q4.term prod
  by_cases h : k < 7168
  · rw [dif_pos h, dif_pos (show k < 256 * 28 from h)]
    refine congr (congrArg _ (hA i _)) (congr (congrArg _ ?_) (hS _ n))
    refine congrArg (Q4.nib · (k % 2)) ((hC _ _ _).trans ?_)
    simp only [show (2 * (k / 32) + k / 16 % 2) / 2 = k / 32 by omega, show (8 * (n.val / 128) + k % 16 / 2) / 8 = n.val / 128 by omega,
      show 8 * ((2 * (k / 32) + k / 16 % 2) % 2) + (8 * (n.val / 128) + k % 16 / 2) % 8 = k % 32 / 2 by omega,
      show 512 * t + 128 * (n.val / 128) + n.val % 128 = 512 * t + n.val by omega]
  · rw [dif_neg h, dif_neg (show ¬ k < 256 * 28 from h)]

/-- The result as a function of the memory. -/
abbrev Out : Vec Ideal S32x10240 .bf16 :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- A block of the output at an element. -/
theorem outB_apply (i : Fin 32) (n : Fin 512) :
    outB m c t (ix2 i n) = Out m c (ix2 i (⟨512 * t.val + n.val, by have := t_lt t; omega⟩ : Fin 10240)) := by
  refine (Q4.gatedV_apply (K := 28) (by decide) (Q4.normV (actA m c) (gainA m c) (Q4.scaleV (actA m c))) (iblk m c 2 t : Vec Ideal (Q4.SCode 28) .i8)
    (iblk m c 4 t : Vec Ideal (Q4.SCode 28) .i8) (iblk m c 3 t : Vec Ideal (Q4.SScale 28) .bf16) (iblk m c 5 t : Vec Ideal (Q4.SScale 28) .bf16) i n).trans ?_
  exact congrArg₂ Q4.gate
    (Finset.sum_congr rfl fun k _ => term_eq _ _ (norm_at m c) _ _ _ _ t.val (t_lt t) (codes_gate m c t) (scales_gate m c t) i n k)
    (Finset.sum_congr rfl fun k _ => term_eq _ _ (norm_at m c) _ _ _ _ t.val (t_lt t) (codes_up m c t) (scales_up m c t) i n k)

/-- The result array after the run. -/
theorem out_eq : (dats m 0 c).arrAt 6 cfg0.N = Out m c := by
  generalize hG : Out m c = H
  refine (dats m 0 c).arrAt_eq_of_covers 6 H (by decide +kernel) fun t hf y => ?_
  have ht := t_lt t
  rw [after0_6]
  have hb := outB_apply m c t
  rw [hG] at hb
  generalize outB m c t = O at hb ⊢
  obtain ⟨i, n, rfl⟩ : ∃ (i : Fin 32) (n : Fin 512), y = ix2 i n := ⟨y 0, y 1, eq_ix2 y⟩
  refine Eq.trans (b := O (ix2 i n)) ?_ ((hb i n).trans ?_)
  · rfl
  · blk_ext [idx t]

end Cert.GateUpIdeal.Run

end
-- ==== Proof.GateValue.lean ====
/-
  The reference of the gate and up projections has the kernel's result, over the extended reals.
-/
module

public import proofs.«01_k».proof.Proof.GateResult
public import proofs.«01_k».proof.Proof.Halves
public import proofs.«01_k».proof.Proof.Gen.GateUpReferenceIdeal.Run

@[expose] public section

set_option maxRecDepth 16384

noncomputable section

namespace Cert.GateValue

open Idealize.ShloMosaic Cert.GateUpReferenceIdeal Cert.GateUpReferenceIdeal.Gen Cert.Value

/-- One product of the kernel's sum, at a block, a code and a nibble. -/
theorem prod_at (A : Vec Ideal S32x7168 .bf16) (C : Vec Ideal S10240x224x16 .i8) (S : Vec Ideal S10240x224 .bf16) (i : Fin 32) (n : Fin 10240)
    (g : Fin 224) (j : Fin 16) (h : Nat) (hh : h < 2) (p : Fin 7168) (hp : p.val = 32 * g.val + 16 * h + j.val) :
    Cert.GateUpIdeal.Run.prod A C S i n (32 * g.val + (2 * j.val + h)) = (A (ix2 i p) * (Q4.nib (C (ix3 n g j)) h * S (ix2 n g)) : EReal) := by
  have hg := g.isLt
  have hj := j.isLt
  have q1 : (32 * g.val + (2 * j.val + h)) / 32 = g.val := by omega
  have q2 : (32 * g.val + (2 * j.val + h)) % 32 = 2 * j.val + h := by omega
  have q3 : (2 * j.val + h) / 2 = j.val := by omega
  have q4 : (32 * g.val + (2 * j.val + h)) % 2 = h := by omega
  unfold Cert.GateUpIdeal.Run.prod
  rw [dif_pos (by omega)]
  have e1 : (⟨Q4.src (32 * g.val + (2 * j.val + h)), Q4.src_lt (K := 28) (by omega)⟩ : Fin 7168) = p := Fin.ext (by
    rw [hp]; unfold Q4.src; dsimp only; rw [q1, q2, q3, q4])
  have e2 : (⟨(32 * g.val + (2 * j.val + h)) / 32, by omega⟩ : Fin 224) = g := Fin.ext q1
  have e3 : (⟨(32 * g.val + (2 * j.val + h)) % 32 / 2, by rw [q2, q3]; exact hj⟩ : Fin 16) = j := Fin.ext (by dsimp only; rw [q2, q3])
  rw [e1, e2, e3, q4]

variable (X : FVec Ideal S32x7168 .f32) (Gn : FVec Ideal S7168 .bf16) (A : FVec Ideal S32x7168 .bf16) (C C' : IVec S10240x224x16 8) (S S' : FVec Ideal S10240x224 .bf16)

/-! ## The norm -/

/-- The reference's normalised activations. -/
def refNorm : FVec Ideal S32x7168 .bf16 :=
  truncf .bf16 (mulf (mulf X (broadcastInDim S32x7168 ![0, 1] bcast_S32x1_S32x7168_0_1 (Host.rsqrt (addf (Host.divf (broadcastInDim S32x1 ![0] bcast_S32_S32x1_0 (Host.reduceAdd (mulf X X) (constant S_ .f32 0x00000000#32) reducesTo_S32x7168_S32_d1 h_S_)) (broadcastInDim S32x1 ![] bcast_S_S32x1 (constant S_ .f32 0x45E00000#32))) (broadcastInDim S32x1 ![] bcast_S_S32x1 (constant S_ .f32 0x358637BD#32)))))) (broadcastInDim S32x7168 ![0, 1] bcast_S1x7168_S32x7168_0_1 (broadcastInDim S1x7168 ![1] bcast_S7168_S1x7168_1 (extf .f32 Gn bitsLt_bf16_f32)))) bitsLt_bf16_f32

theorem refNorm_eq : refNorm X Gn = Cert.GateUpIdeal.Run.norm X Gn := by
  funext y
  obtain ⟨i, k, rfl⟩ : ∃ (i : Fin 32) (k : Fin 7168), y = ix2 i k := ⟨y 0, y 1, eq_ix2 y⟩
  unfold refNorm
  pointwise
  have e : ∑ k ∈ Finset.range 7168, Q4.sq (K := 28) X i k = ∑ k : Fin 7168, (X (ix2 i k) * X (ix2 i k) : EReal) := by
    rw [Finset.sum_range]
    exact Finset.sum_congr rfl fun k _ => dif_pos k.isLt
  refine Eq.trans ?_ (congrArg (fun z : EReal => (X (ix2 i k) * Q4.rowInv z * Gn (ix1 k) : EReal)) e.symm)
  rfl

/-! ## One matrix -/

/-- The reference's product with one unpacked matrix. -/
def refMat : FVec Ideal S32x10240 .f32 :=
  addf (Host.dotGeneral dot_S32x224x16_S10240x224x16_S32x10240_12_12_0_0_n_n none (extractStridedSlice S32x224x16 ![0, 0, 0] (shapeCast _ A shapeCasts_S32x7168_S32x224x32) slices_S32x224x32_S32x224x16_0_0_0) (mulf (subf (sitofp .bf16 (andi (extui 32 C natLt_8_32) (broadcastInDim S10240x224x16 ![] bcast_S_S10240x224x16 (constantI S_ 32 15#32)))) (broadcastInDim S10240x224x16 ![] bcast_S_S10240x224x16 (constant S_ .bf16 0x4100#16))) (broadcastInDim S10240x224x16 ![0, 1, 2] bcast_S10240x224x1_S10240x224x16_0_1_2 (broadcastInDim S10240x224x1 ![0, 1] bcast_S10240x224_S10240x224x1_0_1 S)))) (Host.dotGeneral dot_S32x224x16_S10240x224x16_S32x10240_12_12_0_0_n_n none (extractStridedSlice S32x224x16 ![0, 0, 16] (shapeCast _ A shapeCasts_S32x7168_S32x224x32) slices_S32x224x32_S32x224x16_0_0_16) (mulf (subf (sitofp .bf16 (Host.shrsi (extui 32 C natLt_8_32) (broadcastInDim S10240x224x16 ![] bcast_S_S10240x224x16 (constantI S_ 32 4#32)))) (broadcastInDim S10240x224x16 ![] bcast_S_S10240x224x16 (constant S_ .bf16 0x4100#16))) (broadcastInDim S10240x224x16 ![0, 1, 2] bcast_S10240x224x1_S10240x224x16_0_1_2 (broadcastInDim S10240x224x1 ![0, 1] bcast_S10240x224_S10240x224x1_0_1 S))))

theorem refMat_apply (i : Fin 32) (n : Fin 10240) : refMat A C S (ix2 i n) = Cert.GateUpIdeal.Run.total A C S i n := by
  unfold refMat
  pointwise
  simp only [low_nib, high_nib]
  have eG : Cert.GateUpIdeal.Run.total A C S i n = ∑ k ∈ Finset.range 7168, Cert.GateUpIdeal.Run.prod A C S i n k := rfl
  rw [eG, (halves 224 _ : ∑ k ∈ Finset.range 7168, Cert.GateUpIdeal.Run.prod A C S i n k = _)]
  refine congrArg₂ (fun z w : EReal => z + w) ?_ ?_
  · exact Finset.sum_congr rfl fun g _ => Finset.sum_congr rfl fun j _ => (prod_at A C S i n g j 0 (by omega) _ (by dsimp only; omega)).symm
  · exact Finset.sum_congr rfl fun g _ => Finset.sum_congr rfl fun j _ => (prod_at A C S i n g j 1 (by omega) _ (by dsimp only; omega)).symm

/-! ## The gate -/

/-- The reference's gated product. -/
def refGate (g u : FVec Ideal S32x10240 .f32) : FVec Ideal S32x10240 .bf16 :=
  truncf .bf16 (mulf (mulf g (Host.divf (broadcastInDim S32x10240 ![] bcast_S_S32x10240 (constant S_ .f32 0x3F800000#32)) (addf (broadcastInDim S32x10240 ![] bcast_S_S32x10240 (constant S_ .f32 0x3F800000#32)) (Host.exp (Host.negf g))))) u) bitsLt_bf16_f32

theorem refGate_apply (g u : FVec Ideal S32x10240 .f32) (y : S32x10240.Idx) : refGate g u y = Q4.gate (g y) (u y) := by
  obtain ⟨i, n, rfl⟩ : ∃ (i : Fin 32) (n : Fin 10240), y = ix2 i n := ⟨y 0, y 1, eq_ix2 y⟩
  unfold refGate
  pointwise
  rfl

/-- The reference's term. -/
def ref : FVec Ideal S32x10240 .bf16 := refGate (refMat (refNorm X Gn) C S) (refMat (refNorm X Gn) C' S')

theorem ref_eq : ref X Gn C C' S S' = Cert.GateUpIdeal.Run.G X Gn C S C' S' := by
  funext y
  obtain ⟨i, n, rfl⟩ : ∃ (i : Fin 32) (n : Fin 10240), y = ix2 i n := ⟨y 0, y 1, eq_ix2 y⟩
  unfold ref
  rw [refGate_apply, refMat_apply, refMat_apply, refNorm_eq]
  rfl

/-- The reference's run ends with that term. -/
theorem res_eq (m : (ℓ : Loc nD τ sig) → Buf (Elt Ideal) ℓ) (c : Dev nD) :
    Cert.GateUpReferenceIdeal.Value.res_main_v61 m c
      = ref (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg3)) (m ((c.tc : Thread nD τ).loc main_arg5)) := rfl

end Cert.GateValue

end
-- ==== Proof.lean ====
/-
  The claims, from the modules under Proof/, for the down projection and for the gate and up projections: the frames of each kernel at
  both readings (FrameKernel, FrameIdeal; GateFrameKernel, GateFrameIdeal), each reference's run (generated), and the value claims
  (Output and Value; GateOutput and GateValue).
-/
module

public import proofs.«01_k».proof.Defs
public import proofs.«01_k».proof.Proof.FrameKernel
public import proofs.«01_k».proof.Proof.FrameIdeal
public import proofs.«01_k».proof.Proof.Value
public import proofs.«01_k».proof.Proof.GateFrameKernel
public import proofs.«01_k».proof.Proof.GateOutput
public import proofs.«01_k».proof.Proof.GateValue
public import Idealize.ShloMosaic.Adequacy
public import Idealize.ShloMosaic.Init

@[expose] public section

noncomputable section

namespace Cert.Proof

open Idealize.ShloMosaic Idealize.SL.Sem

/-- The reference's frame: its arguments end as they were, and it has no semaphore. -/
theorem frame_r : Cert.quiescent_ReferenceIdeal := fun m ρ _ =>
  (θ_run _ _ _).mono (fun r h => ⟨fun c => (h c).2, sem_eq_zero_of_no_sems (by decide) r.2⟩) (Cert.ReferenceIdeal.Value.run m ρ)

/-- The kernel at the extended reals ends with the residual plus all products in its result. -/
theorem kernel_ends (m : (ℓ : Loc Cert.KernelIdeal.nD Cert.KernelIdeal.τ Cert.KernelIdeal.sig) → Buf (Elt Ideal) ℓ) (c : Dev Cert.KernelIdeal.nD)
    {r} (h : Pipeline.FramePost Cert.KernelIdeal.cfgs (Cert.KernelIdeal.Run.dats m) 0 (Cert.KernelIdeal.Gen.V m) r) :
    r.2.mem ((c.tc : Thread _ _).loc Cert.KernelIdeal.main_v5)
      = Cert.KernelIdeal.Run.G (m ((c.tc : Thread _ _).loc Cert.KernelIdeal.main_arg0)) (m ((c.tc : Thread _ _).loc Cert.KernelIdeal.main_arg1))
          (m ((c.tc : Thread _ _).loc Cert.KernelIdeal.main_arg2)) (m ((c.tc : Thread _ _).loc Cert.KernelIdeal.main_arg3)) :=
  ((h c).1 4).trans (Cert.KernelIdeal.Run.out_eq m c)

/-- The value claim: from the same arguments the kernel and the reference end with the same result. -/
theorem same_result : Cert.algebraic_KernelIdeal_ReferenceIdeal := fun m g m' g' _ ag => by
  refine ⟨fun c => Cert.KernelIdeal.Run.G (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · exact (θ_run _ _ _).mono (fun r h c => ⟨kernel_ends m c h.1, h.2.1 c⟩)
      (θ_run_and (Cert.KernelIdeal.Run.run_main m g) (Cert.KernelIdeal.Run.frame m g))
  · refine (θ_run _ _ _).mono (fun r h c => ⟨((h c).1.trans ?_), (h c).2⟩) (Cert.ReferenceIdeal.Value.run m' g')
    obtain ⟨a0, a1, a2, a3⟩ := ag c
    rw [a0, a1, a2, a3]
    exact Cert.Value.ref_eq _ _ _ _

/-! ## The gate and up projections -/

/-- The reference's frame. -/
theorem gate_frame_r : Cert.quiescent_GateUpReferenceIdeal := fun m ρ _ =>
  (θ_run _ _ _).mono (fun r h => ⟨fun c => (h c).2, sem_eq_zero_of_no_sems (by decide) r.2⟩) (Cert.GateUpReferenceIdeal.Value.run m ρ)

/-- The kernel at the extended reals ends with the gated products in its result. -/
theorem gate_kernel_ends (m : (ℓ : Loc Cert.GateUpIdeal.nD Cert.GateUpIdeal.τ Cert.GateUpIdeal.sig) → Buf (Elt Ideal) ℓ) (c : Dev Cert.GateUpIdeal.nD)
    {r} (h : Pipeline.FramePost Cert.GateUpIdeal.cfgs (Cert.GateUpIdeal.Run.dats m) 0 (Cert.GateUpIdeal.Gen.V m) r) :
    r.2.mem ((c.tc : Thread _ _).loc Cert.GateUpIdeal.main_v11) = Cert.GateUpIdeal.Run.Out m c :=
  ((h c).1 6).trans (Cert.GateUpIdeal.Run.out_eq m c)

/-- The value claim: from the same arguments the kernel and the reference end with the same result. -/
theorem gate_same_result : Cert.algebraic_GateUpIdeal_GateUpReferenceIdeal := fun m g m' g' _ ag => by
  refine ⟨fun c => Cert.GateUpIdeal.Run.Out m c, ?_, ?_⟩
  · exact (θ_run _ _ _).mono (fun r h c => ⟨gate_kernel_ends m c h.1, h.2.1 c⟩)
      (θ_run_and (Cert.GateUpIdeal.Run.run_main m g) (Cert.GateUpIdeal.Run.frame m g))
  · refine (θ_run _ _ _).mono (fun r h c => ⟨((h c).1.trans ?_), (h c).2⟩) (Cert.GateUpReferenceIdeal.Value.run m' g')
    obtain ⟨a0, a1, a2, a3, a4, a5⟩ := ag c
    rw [Cert.GateValue.res_eq, a0, a1, a2, a3, a4, a5]
    exact Cert.GateValue.ref_eq _ _ _ _ _ _

/-! ## All claims -/

theorem claim : Cert.Claim := ⟨Cert.Kernel.Gen.facts, Cert.KernelIdeal.Gen.facts, Cert.ReferenceIdeal.Gen.facts,
  Cert.GateUp.Gen.facts, Cert.GateUpIdeal.Gen.facts, Cert.GateUpReferenceIdeal.Gen.facts,
  fun m ρ _ => Cert.Kernel.Run.frame m ρ, fun m ρ _ => Cert.KernelIdeal.Run.frame m ρ, frame_r,
  fun m ρ _ => Cert.GateUp.Run.frame m ρ, fun m ρ _ => Cert.GateUpIdeal.Run.frame m ρ, gate_frame_r,
  trivial, same_result, trivial, gate_same_result⟩

end Cert.Proof

end
